-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)

variable [Facts]

def fn {F : FTy → Type} [FloatOps F] (main_arg0 : FVec F S2x256x512 .f32) (main_arg1 : FVec F S2x256x512 .f32) (main_arg2 : FVec F S2x256x512 .f32) : IVec S2x256x512 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S2x256x512 .f32 := Host.absf main_arg1
  let main_cst_0 : FVec F S_ .f32 := constant S_ .f32 0x7F800000#32
  let main_v4 : FVec F S2x256x512 .f32 := broadcastInDim S2x256x512 ![] bcast_S_S2x256x512 main_cst_0
  let main_v5 : IVec S2x256x512 1 := cmpf .olt main_v3 main_v4
  let main_v6 : IVec S2x256x512 1 := andi main_v2 main_v5
  main_v6
-- ==== Pre_finite_qk_ReferenceIdeal.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) : IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : IVec S2x2048x512 1 := andi main_v2 main_v5
  main_v6
-- ==== Kernel.lean ====
abbrev S2x256x512 : Shape := ⟨3, ![2, 256, 512]⟩
abbrev S2x2048x512 : Shape := ⟨3, ![2, 2048, 512]⟩
abbrev S7x2 : Shape := ⟨2, ![7, 2]⟩
abbrev S_ : Shape := ⟨0, ![]⟩
abbrev S1x1 : Shape := ⟨2, ![1, 1]⟩
abbrev S2x64x512 : Shape := ⟨3, ![2, 64, 512]⟩
abbrev S1x256x64 : Shape := ⟨3, ![1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x128x64 : Shape := ⟨3, ![1, 128, 64]⟩
abbrev S128x64 : Shape := ⟨2, ![128, 64]⟩
abbrev S256x128 : Shape := ⟨2, ![256, 128]⟩
abbrev S1x256x512 : Shape := ⟨3, ![1, 256, 512]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S2x2048x512, .fp8e4m3⟩
  | .local _ .vmem, ⟨5, _⟩ => ⟨S2x2048x512, .fp8e4m3⟩
  | .local _ .vmem, ⟨6, _⟩ => ⟨S2x256x512, .f32⟩
  | .local _ .vmem, ⟨7, _⟩ => ⟨S2x256x512, .bf16⟩
  | .local _ .vmem, ⟨8, _⟩ => ⟨S2x256x512, .fp8e4m3⟩
  | .local _ .vmem, ⟨9, _⟩ => ⟨S2x256x512, .fp8e4m3⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  (ofTc nBuf bufTy 1 116 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_30 : BitVec 32) : Fin 3 → Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v42 : BitVec 32 := Scalar.muli v2 c256_i32
  let v43 : BitVec 32 := Scalar.addi v42 c0_i32_30
  let c0_i32_38 : BitVec 32 := 0#32
  ![0, v43.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v44 : BitVec 32 := Scalar.muli v24 c1_i32_35
  let v45 : BitVec 32 := Scalar.addi c0_i32_36 v44
  v45.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v54 : BitVec 32 := Scalar.muli v24 c1_i32_48
  let v55 : BitVec 32 := Scalar.addi c0_i32_49 v54
  v55.toNat
def k0_off2 (d0 : Dev nD) (c0_i32_56 : BitVec 32) : Fin 3 → Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_55 : BitVec 32 := 256#32
  let v62 : BitVec 32 := Scalar.muli v2 c256_i32_55
  let c128_i32 : BitVec 32 := 128#32
  let v63 : BitVec 32 := Scalar.addi v62 c128_i32
  let v64 : BitVec 32 := Scalar.addi v63 c0_i32_56
  let c0_i32_64 : BitVec 32 := 0#32
  ![0, v64.toNat, 0]
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v65 : BitVec 32 := Scalar.muli v13 c1_i32_61
  let v66 : BitVec 32 := Scalar.addi c0_i32_62 v65
  v66.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v76 : BitVec 32 := Scalar.muli v13 c1_i32_75
  let v77 : BitVec 32 := Scalar.addi c0_i32_76 v76
  v77.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_87 : BitVec 32 := 1#32
  let v86 : BitVec 32 := Scalar.muli v24 c1_i32_87
  let v87 : BitVec 32 := Scalar.addi c0_i32_88 v86
  v87.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_100 : BitVec 32 := 1#32
  let v96 : BitVec 32 := Scalar.muli v24 c1_i32_100
  let v97 : BitVec 32 := Scalar.addi c0_i32_101 v96
  v97.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_114 : BitVec 32 := 1#32
  let v107 : BitVec 32 := Scalar.muli v13 c1_i32_114
  let v108 : BitVec 32 := Scalar.addi c0_i32_115 v107
  v108.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_127 : BitVec 32 := 1#32
  let v118 : BitVec 32 := Scalar.muli v13 c1_i32_127
  let v119 : BitVec 32 := Scalar.addi c0_i32_128 v118
  v119.toNat
@[reducible] def k0_t1_loop : Scf.Loop 32 :=
  let c0_i32_524 : BitVec 32 := 0#32
  let c6_i32 : BitVec 32 := 6#32
  let v572 : BitVec 32 := Scalar.addi c0_i32_524 c6_i32
  let c1_i32_525 : BitVec 32 := 1#32
  ⟨c0_i32_524, v572, c1_i32_525⟩
def k0_off3 (k0_t1 : Fin k0_t1_loop.trips) : Fin 2 → Nat :=
  let c0_i32_524 : BitVec 32 := 0#32
  let c1_i32_525 : BitVec 32 := 1#32
  let arg18 : BitVec 32 := Scf.iv c0_i32_524 c1_i32_525 k0_t1
  let c0_i32_1311 : BitVec 32 := 0#32
  ![arg18.toNat, 0]
def k0_off4 (d0 : Dev nD) (k0_t1 : Fin k0_t1_loop.trips) (c0_i32_1310 : BitVec 32) : Fin 3 → Nat :=
  let c0_i32_1315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1309 : BitVec 32 := 256#32
  let v1480 : BitVec 32 := Scalar.muli v1465 c256_i32_1309
  let v1481 : BitVec 32 := Scalar.addi v1480 c0_i32_1310
  let c0_i32_1316 : BitVec 32 := 0#32
  ![0, v1481.toNat, 0]
def k0_off5 (d0 : Dev nD) (k0_t1 : Fin k0_t1_loop.trips) (c0_i32_1336 : BitVec 32) : Fin 3 → Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1334 : BitVec 32 := 256#32
  let v1501 : BitVec 32 := Scalar.muli v1477 c256_i32_1334
  let c128_i32_1335 : BitVec 32 := 128#32
  let v1502 : BitVec 32 := Scalar.addi v1501 c128_i32_1335
  let v1503 : BitVec 32 := Scalar.addi v1502 c0_i32_1336
  let c0_i32_1342 : BitVec 32 := 0#32
  ![0, v1503.toNat, 0]
def k0_off6 (k0_t1 : Fin k0_t1_loop.trips) : Fin 2 → Nat :=
  let c0_i32_524 : BitVec 32 := 0#32
  let c1_i32_525 : BitVec 32 := 1#32
  let arg18 : BitVec 32 := Scf.iv c0_i32_524 c1_i32_525 k0_t1
  let c1_i32_1359 : BitVec 32 := 1#32
  let v1522 : BitVec 32 := Scalar.addi arg18 c1_i32_1359
  let c0_i32_1365 : BitVec 32 := 0#32
  ![v1522.toNat, 0]
def k0_dev11 (d0 : Dev nD) : Nat :=
  let c0_i32_1367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1366 : BitVec 32 := 1#32
  let v1527 : BitVec 32 := Scalar.muli v24 c1_i32_1366
  let v1528 : BitVec 32 := Scalar.addi c0_i32_1367 v1527
  v1528.toNat
def k0_dev12 (d0 : Dev nD) : Nat :=
  let c0_i32_1380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1379 : BitVec 32 := 1#32
  let v1540 : BitVec 32 := Scalar.muli v24 c1_i32_1379
  let v1541 : BitVec 32 := Scalar.addi c0_i32_1380 v1540
  v1541.toNat
def k0_dev13 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1394 : BitVec 32 := 1#32
  let v1555 : BitVec 32 := Scalar.muli v13 c1_i32_1394
  let v1556 : BitVec 32 := Scalar.addi c0_i32_1395 v1555
  v1556.toNat
def k0_dev14 (d0 : Dev nD) : Nat :=
  let c0_i32_1410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1409 : BitVec 32 := 1#32
  let v1570 : BitVec 32 := Scalar.muli v13 c1_i32_1409
  let v1571 : BitVec 32 := Scalar.addi c0_i32_1410 v1570
  v1571.toNat
def k0_off7 (k0_t1 : Fin k0_t1_loop.trips) : Fin 2 → Nat :=
  let c0_i32_524 : BitVec 32 := 0#32
  let c1_i32_525 : BitVec 32 := 1#32
  let arg18 : BitVec 32 := Scf.iv c0_i32_524 c1_i32_525 k0_t1
  let c1_i32_1419 : BitVec 32 := 1#32
  ![arg18.toNat, 1]
def k0_off8 (k0_t1 : Fin k0_t1_loop.trips) : Fin 2 → Nat :=
  let c0_i32_524 : BitVec 32 := 0#32
  let c1_i32_525 : BitVec 32 := 1#32
  let arg18 : BitVec 32 := Scf.iv c0_i32_524 c1_i32_525 k0_t1
  let c1_i32_1467 : BitVec 32 := 1#32
  let v1622 : BitVec 32 := Scalar.addi arg18 c1_i32_1467
  let c1_i32_1473 : BitVec 32 := 1#32
  ![v1622.toNat, 1]
def k0_dev15 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1474 : BitVec 32 := 1#32
  let v1627 : BitVec 32 := Scalar.muli v24 c1_i32_1474
  let v1628 : BitVec 32 := Scalar.addi c0_i32_1475 v1627
  v1628.toNat
def k0_dev16 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1487 : BitVec 32 := 1#32
  let v1640 : BitVec 32 := Scalar.muli v24 c1_i32_1487
  let v1641 : BitVec 32 := Scalar.addi c0_i32_1488 v1640
  v1641.toNat
def k0_dev17 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1502 : BitVec 32 := 1#32
  let v1655 : BitVec 32 := Scalar.muli v13 c1_i32_1502
  let v1656 : BitVec 32 := Scalar.addi c0_i32_1503 v1655
  v1656.toNat
def k0_dev18 (d0 : Dev nD) : Nat :=
  let c0_i32_1518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1517 : BitVec 32 := 1#32
  let v1670 : BitVec 32 := Scalar.muli v13 c1_i32_1517
  let v1671 : BitVec 32 := Scalar.addi c0_i32_1518 v1670
  v1671.toNat
def k0_off9 (d0 : Dev nD) (k0_t1 : Fin k0_t1_loop.trips) : Fin 3 → Nat :=
  let c0_1524 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1523 : BitVec 32 := 256#32
  let v1678 : BitVec 32 := Scalar.muli v1465 c256_i32_1523
  let v1679 : Index := Scalar.indexCast v1678
  let c0_1525 : Index := 0#32
  ![0, v1679.toNat, 0]
def k0_off10 (d0 : Dev nD) (k0_t1 : Fin k0_t1_loop.trips) : Fin 3 → Nat :=
  let c0_1528 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1526 : BitVec 32 := 256#32
  let v1682 : BitVec 32 := Scalar.muli v1477 c256_i32_1526
  let c128_i32_1527 : BitVec 32 := 128#32
  let v1683 : BitVec 32 := Scalar.addi v1682 c128_i32_1527
  let v1684 : Index := Scalar.indexCast v1683
  let c0_1529 : Index := 0#32
  ![0, v1684.toNat, 0]
def k0_off11 (d0 : Dev nD) (k0_t1 : Fin k0_t1_loop.trips) : Fin 3 → Nat :=
  let c0_1557 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1556 : BitVec 32 := 256#32
  let v1723 : BitVec 32 := Scalar.muli v1465 c256_i32_1556
  let v1724 : Index := Scalar.indexCast v1723
  let c64_1558 : Index := 64#32
  ![0, v1724.toNat, 64]
def k0_off12 (d0 : Dev nD) (k0_t1 : Fin k0_t1_loop.trips) : Fin 3 → Nat :=
  let c0_1561 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1559 : BitVec 32 := 256#32
  let v1727 : BitVec 32 := Scalar.muli v1477 c256_i32_1559
  let c128_i32_1560 : BitVec 32 := 128#32
  let v1728 : BitVec 32 := Scalar.addi v1727 c128_i32_1560
  let v1729 : Index := Scalar.indexCast v1728
  let c64_1562 : Index := 64#32
  ![0, v1729.toNat, 64]
def k0_off13 (d0 : Dev nD) (k0_t1 : Fin k0_t1_loop.trips) : Fin 3 → Nat :=
  let c0_1590 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1589 : BitVec 32 := 256#32
  let v1768 : BitVec 32 := Scalar.muli v1465 c256_i32_1589
  let v1769 : Index := Scalar.indexCast v1768
  let c128_1591 : Index := 128#32
  ![0, v1769.toNat, 128]
def k0_off14 (d0 : Dev nD) (k0_t1 : Fin k0_t1_loop.trips) : Fin 3 → Nat :=
  let c0_1594 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1592 : BitVec 32 := 256#32
  let v1772 : BitVec 32 := Scalar.muli v1477 c256_i32_1592
  let c128_i32_1593 : BitVec 32 := 128#32
  let v1773 : BitVec 32 := Scalar.addi v1772 c128_i32_1593
  let v1774 : Index := Scalar.indexCast v1773
  let c128_1595 : Index := 128#32
  ![0, v1774.toNat, 128]
def k0_off15 (d0 : Dev nD) (k0_t1 : Fin k0_t1_loop.trips) : Fin 3 → Nat :=
  let c0_1623 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1622 : BitVec 32 := 256#32
  let v1813 : BitVec 32 := Scalar.muli v1465 c256_i32_1622
  let v1814 : Index := Scalar.indexCast v1813
  let c192_1624 : Index := 192#32
  ![0, v1814.toNat, 192]
def k0_off16 (d0 : Dev nD) (k0_t1 : Fin k0_t1_loop.trips) : Fin 3 → Nat :=
  let c0_1627 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1625 : BitVec 32 := 256#32
  let v1817 : BitVec 32 := Scalar.muli v1477 c256_i32_1625
  let c128_i32_1626 : BitVec 32 := 128#32
  let v1818 : BitVec 32 := Scalar.addi v1817 c128_i32_1626
  let v1819 : Index := Scalar.indexCast v1818
  let c192_1628 : Index := 192#32
  ![0, v1819.toNat, 192]
def k0_off17 (d0 : Dev nD) (k0_t1 : Fin k0_t1_loop.trips) : Fin 3 → Nat :=
  let c0_1656 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1655 : BitVec 32 := 256#32
  let v1858 : BitVec 32 := Scalar.muli v1465 c256_i32_1655
  let v1859 : Index := Scalar.indexCast v1858
  let c256_1657 : Index := 256#32
  ![0, v1859.toNat, 256]
def k0_off18 (d0 : Dev nD) (k0_t1 : Fin k0_t1_loop.trips) : Fin 3 → Nat :=
  let c0_1660 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1658 : BitVec 32 := 256#32
  let v1862 : BitVec 32 := Scalar.muli v1477 c256_i32_1658
  let c128_i32_1659 : BitVec 32 := 128#32
  let v1863 : BitVec 32 := Scalar.addi v1862 c128_i32_1659
  let v1864 : Index := Scalar.indexCast v1863
  let c256_1661 : Index := 256#32
  ![0, v1864.toNat, 256]
def k0_off19 (d0 : Dev nD) (k0_t1 : Fin k0_t1_loop.trips) : Fin 3 → Nat :=
  let c0_1689 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1688 : BitVec 32 := 256#32
  let v1903 : BitVec 32 := Scalar.muli v1465 c256_i32_1688
  let v1904 : Index := Scalar.indexCast v1903
  let c320_1690 : Index := 320#32
  ![0, v1904.toNat, 320]
def k0_off20 (d0 : Dev nD) (k0_t1 : Fin k0_t1_loop.trips) : Fin 3 → Nat :=
  let c0_1693 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1691 : BitVec 32 := 256#32
  let v1907 : BitVec 32 := Scalar.muli v1477 c256_i32_1691
  let c128_i32_1692 : BitVec 32 := 128#32
  let v1908 : BitVec 32 := Scalar.addi v1907 c128_i32_1692
  let v1909 : Index := Scalar.indexCast v1908
  let c320_1694 : Index := 320#32
  ![0, v1909.toNat, 320]
def k0_off21 (d0 : Dev nD) (k0_t1 : Fin k0_t1_loop.trips) : Fin 3 → Nat :=
  let c0_1722 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1721 : BitVec 32 := 256#32
  let v1948 : BitVec 32 := Scalar.muli v1465 c256_i32_1721
  let v1949 : Index := Scalar.indexCast v1948
  let c384_1723 : Index := 384#32
  ![0, v1949.toNat, 384]
def k0_off22 (d0 : Dev nD) (k0_t1 : Fin k0_t1_loop.trips) : Fin 3 → Nat :=
  let c0_1726 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1724 : BitVec 32 := 256#32
  let v1952 : BitVec 32 := Scalar.muli v1477 c256_i32_1724
  let c128_i32_1725 : BitVec 32 := 128#32
  let v1953 : BitVec 32 := Scalar.addi v1952 c128_i32_1725
  let v1954 : Index := Scalar.indexCast v1953
  let c384_1727 : Index := 384#32
  ![0, v1954.toNat, 384]
def k0_off23 (d0 : Dev nD) (k0_t1 : Fin k0_t1_loop.trips) : Fin 3 → Nat :=
  let c0_1755 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1754 : BitVec 32 := 256#32
  let v1993 : BitVec 32 := Scalar.muli v1465 c256_i32_1754
  let v1994 : Index := Scalar.indexCast v1993
  let c448_1756 : Index := 448#32
  ![0, v1994.toNat, 448]
def k0_off24 (d0 : Dev nD) (k0_t1 : Fin k0_t1_loop.trips) : Fin 3 → Nat :=
  let c0_1759 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1757 : BitVec 32 := 256#32
  let v1997 : BitVec 32 := Scalar.muli v1477 c256_i32_1757
  let c128_i32_1758 : BitVec 32 := 128#32
  let v1998 : BitVec 32 := Scalar.addi v1997 c128_i32_1758
  let v1999 : Index := Scalar.indexCast v1998
  let c448_1760 : Index := 448#32
  ![0, v1999.toNat, 448]
def k0_off25 (d0 : Dev nD) (k0_t1 : Fin k0_t1_loop.trips) : Fin 3 → Nat :=
  let c1_1788 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1787 : BitVec 32 := 256#32
  let v2038 : BitVec 32 := Scalar.muli v1465 c256_i32_1787
  let v2039 : Index := Scalar.indexCast v2038
  let c0_1789 : Index := 0#32
  ![1, v2039.toNat, 0]
def k0_off26 (d0 : Dev nD) (k0_t1 : Fin k0_t1_loop.trips) : Fin 3 → Nat :=
  let c1_1792 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1790 : BitVec 32 := 256#32
  let v2042 : BitVec 32 := Scalar.muli v1477 c256_i32_1790
  let c128_i32_1791 : BitVec 32 := 128#32
  let v2043 : BitVec 32 := Scalar.addi v2042 c128_i32_1791
  let v2044 : Index := Scalar.indexCast v2043
  let c0_1793 : Index := 0#32
  ![1, v2044.toNat, 0]
def k0_off27 (d0 : Dev nD) (k0_t1 : Fin k0_t1_loop.trips) : Fin 3 → Nat :=
  let c1_1821 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1820 : BitVec 32 := 256#32
  let v2083 : BitVec 32 := Scalar.muli v1465 c256_i32_1820
  let v2084 : Index := Scalar.indexCast v2083
  let c64_1822 : Index := 64#32
  ![1, v2084.toNat, 64]
def k0_off28 (d0 : Dev nD) (k0_t1 : Fin k0_t1_loop.trips) : Fin 3 → Nat :=
  let c1_1825 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1823 : BitVec 32 := 256#32
  let v2087 : BitVec 32 := Scalar.muli v1477 c256_i32_1823
  let c128_i32_1824 : BitVec 32 := 128#32
  let v2088 : BitVec 32 := Scalar.addi v2087 c128_i32_1824
  let v2089 : Index := Scalar.indexCast v2088
  let c64_1826 : Index := 64#32
  ![1, v2089.toNat, 64]
def k0_off29 (d0 : Dev nD) (k0_t1 : Fin k0_t1_loop.trips) : Fin 3 → Nat :=
  let c1_1854 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1853 : BitVec 32 := 256#32
  let v2128 : BitVec 32 := Scalar.muli v1465 c256_i32_1853
  let v2129 : Index := Scalar.indexCast v2128
  let c128_1855 : Index := 128#32
  ![1, v2129.toNat, 128]
def k0_off30 (d0 : Dev nD) (k0_t1 : Fin k0_t1_loop.trips) : Fin 3 → Nat :=
  let c1_1858 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1856 : BitVec 32 := 256#32
  let v2132 : BitVec 32 := Scalar.muli v1477 c256_i32_1856
  let c128_i32_1857 : BitVec 32 := 128#32
  let v2133 : BitVec 32 := Scalar.addi v2132 c128_i32_1857
  let v2134 : Index := Scalar.indexCast v2133
  let c128_1859 : Index := 128#32
  ![1, v2134.toNat, 128]
def k0_off31 (d0 : Dev nD) (k0_t1 : Fin k0_t1_loop.trips) : Fin 3 → Nat :=
  let c1_1887 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1886 : BitVec 32 := 256#32
  let v2173 : BitVec 32 := Scalar.muli v1465 c256_i32_1886
  let v2174 : Index := Scalar.indexCast v2173
  let c192_1888 : Index := 192#32
  ![1, v2174.toNat, 192]
def k0_off32 (d0 : Dev nD) (k0_t1 : Fin k0_t1_loop.trips) : Fin 3 → Nat :=
  let c1_1891 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1889 : BitVec 32 := 256#32
  let v2177 : BitVec 32 := Scalar.muli v1477 c256_i32_1889
  let c128_i32_1890 : BitVec 32 := 128#32
  let v2178 : BitVec 32 := Scalar.addi v2177 c128_i32_1890
  let v2179 : Index := Scalar.indexCast v2178
  let c192_1892 : Index := 192#32
  ![1, v2179.toNat, 192]
def k0_off33 (d0 : Dev nD) (k0_t1 : Fin k0_t1_loop.trips) : Fin 3 → Nat :=
  let c1_1920 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1919 : BitVec 32 := 256#32
  let v2218 : BitVec 32 := Scalar.muli v1465 c256_i32_1919
  let v2219 : Index := Scalar.indexCast v2218
  let c256_1921 : Index := 256#32
  ![1, v2219.toNat, 256]
def k0_off34 (d0 : Dev nD) (k0_t1 : Fin k0_t1_loop.trips) : Fin 3 → Nat :=
  let c1_1924 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1922 : BitVec 32 := 256#32
  let v2222 : BitVec 32 := Scalar.muli v1477 c256_i32_1922
  let c128_i32_1923 : BitVec 32 := 128#32
  let v2223 : BitVec 32 := Scalar.addi v2222 c128_i32_1923
  let v2224 : Index := Scalar.indexCast v2223
  let c256_1925 : Index := 256#32
  ![1, v2224.toNat, 256]
def k0_off35 (d0 : Dev nD) (k0_t1 : Fin k0_t1_loop.trips) : Fin 3 → Nat :=
  let c1_1953 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1952 : BitVec 32 := 256#32
  let v2263 : BitVec 32 := Scalar.muli v1465 c256_i32_1952
  let v2264 : Index := Scalar.indexCast v2263
  let c320_1954 : Index := 320#32
  ![1, v2264.toNat, 320]
def k0_off36 (d0 : Dev nD) (k0_t1 : Fin k0_t1_loop.trips) : Fin 3 → Nat :=
  let c1_1957 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1955 : BitVec 32 := 256#32
  let v2267 : BitVec 32 := Scalar.muli v1477 c256_i32_1955
  let c128_i32_1956 : BitVec 32 := 128#32
  let v2268 : BitVec 32 := Scalar.addi v2267 c128_i32_1956
  let v2269 : Index := Scalar.indexCast v2268
  let c320_1958 : Index := 320#32
  ![1, v2269.toNat, 320]
def k0_off37 (d0 : Dev nD) (k0_t1 : Fin k0_t1_loop.trips) : Fin 3 → Nat :=
  let c1_1986 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1985 : BitVec 32 := 256#32
  let v2308 : BitVec 32 := Scalar.muli v1465 c256_i32_1985
  let v2309 : Index := Scalar.indexCast v2308
  let c384_1987 : Index := 384#32
  ![1, v2309.toNat, 384]
def k0_off38 (d0 : Dev nD) (k0_t1 : Fin k0_t1_loop.trips) : Fin 3 → Nat :=
  let c1_1990 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1988 : BitVec 32 := 256#32
  let v2312 : BitVec 32 := Scalar.muli v1477 c256_i32_1988
  let c128_i32_1989 : BitVec 32 := 128#32
  let v2313 : BitVec 32 := Scalar.addi v2312 c128_i32_1989
  let v2314 : Index := Scalar.indexCast v2313
  let c384_1991 : Index := 384#32
  ![1, v2314.toNat, 384]
def k0_off39 (d0 : Dev nD) (k0_t1 : Fin k0_t1_loop.trips) : Fin 3 → Nat :=
  let c1_2019 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_2018 : BitVec 32 := 256#32
  let v2353 : BitVec 32 := Scalar.muli v1465 c256_i32_2018
  let v2354 : Index := Scalar.indexCast v2353
  let c448_2020 : Index := 448#32
  ![1, v2354.toNat, 448]
def k0_off40 (d0 : Dev nD) (k0_t1 : Fin k0_t1_loop.trips) : Fin 3 → Nat :=
  let c1_2023 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let c1_i32_525 : BitVec 32 := 1#32
  let arg18 : BitVec 32 := Scf.iv c0_i32_524 c1_i32_525 k0_t1
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_2021 : BitVec 32 := 256#32
  let v2357 : BitVec 32 := Scalar.muli v1477 c256_i32_2021
  let c128_i32_2022 : BitVec 32 := 128#32
  let v2358 : BitVec 32 := Scalar.addi v2357 c128_i32_2022
  let v2359 : Index := Scalar.indexCast v2358
  let c448_2024 : Index := 448#32
  ![1, v2359.toNat, 448]
def k0_off41 (d0 : Dev nD) (c0_i32_546 : BitVec 32) : Fin 3 → Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_545 : BitVec 32 := 256#32
  let v599 : BitVec 32 := Scalar.muli v584 c256_i32_545
  let v600 : BitVec 32 := Scalar.addi v599 c0_i32_546
  let c0_i32_554 : BitVec 32 := 0#32
  ![0, v600.toNat, 0]
def k0_off42 (d0 : Dev nD) (c0_i32_576 : BitVec 32) : Fin 3 → Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_574 : BitVec 32 := 256#32
  let v620 : BitVec 32 := Scalar.muli v596 c256_i32_574
  let c128_i32_575 : BitVec 32 := 128#32
  let v621 : BitVec 32 := Scalar.addi v620 c128_i32_575
  let v622 : BitVec 32 := Scalar.addi v621 c0_i32_576
  let c0_i32_584 : BitVec 32 := 0#32
  ![0, v622.toNat, 0]
def k0_off43 (d0 : Dev nD) : Fin 3 → Nat :=
  let c0_664 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_663 : BitVec 32 := 256#32
  let v685 : BitVec 32 := Scalar.muli v584 c256_i32_663
  let v686 : Index := Scalar.indexCast v685
  let c0_665 : Index := 0#32
  ![0, v686.toNat, 0]
def k0_off44 (d0 : Dev nD) : Fin 3 → Nat :=
  let c0_668 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_666 : BitVec 32 := 256#32
  let v689 : BitVec 32 := Scalar.muli v596 c256_i32_666
  let c128_i32_667 : BitVec 32 := 128#32
  let v690 : BitVec 32 := Scalar.addi v689 c128_i32_667
  let v691 : Index := Scalar.indexCast v690
  let c0_669 : Index := 0#32
  ![0, v691.toNat, 0]
def k0_off45 (d0 : Dev nD) : Fin 3 → Nat :=
  let c0_697 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_696 : BitVec 32 := 256#32
  let v730 : BitVec 32 := Scalar.muli v584 c256_i32_696
  let v731 : Index := Scalar.indexCast v730
  let c64_698 : Index := 64#32
  ![0, v731.toNat, 64]
def k0_off46 (d0 : Dev nD) : Fin 3 → Nat :=
  let c0_701 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_699 : BitVec 32 := 256#32
  let v734 : BitVec 32 := Scalar.muli v596 c256_i32_699
  let c128_i32_700 : BitVec 32 := 128#32
  let v735 : BitVec 32 := Scalar.addi v734 c128_i32_700
  let v736 : Index := Scalar.indexCast v735
  let c64_702 : Index := 64#32
  ![0, v736.toNat, 64]
def k0_off47 (d0 : Dev nD) : Fin 3 → Nat :=
  let c0_730 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_729 : BitVec 32 := 256#32
  let v775 : BitVec 32 := Scalar.muli v584 c256_i32_729
  let v776 : Index := Scalar.indexCast v775
  let c128_731 : Index := 128#32
  ![0, v776.toNat, 128]
def k0_off48 (d0 : Dev nD) : Fin 3 → Nat :=
  let c0_734 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_732 : BitVec 32 := 256#32
  let v779 : BitVec 32 := Scalar.muli v596 c256_i32_732
  let c128_i32_733 : BitVec 32 := 128#32
  let v780 : BitVec 32 := Scalar.addi v779 c128_i32_733
  let v781 : Index := Scalar.indexCast v780
  let c128_735 : Index := 128#32
  ![0, v781.toNat, 128]
def k0_off49 (d0 : Dev nD) : Fin 3 → Nat :=
  let c0_763 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_762 : BitVec 32 := 256#32
  let v820 : BitVec 32 := Scalar.muli v584 c256_i32_762
  let v821 : Index := Scalar.indexCast v820
  let c192_764 : Index := 192#32
  ![0, v821.toNat, 192]
def k0_off50 (d0 : Dev nD) : Fin 3 → Nat :=
  let c0_767 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_765 : BitVec 32 := 256#32
  let v824 : BitVec 32 := Scalar.muli v596 c256_i32_765
  let c128_i32_766 : BitVec 32 := 128#32
  let v825 : BitVec 32 := Scalar.addi v824 c128_i32_766
  let v826 : Index := Scalar.indexCast v825
  let c192_768 : Index := 192#32
  ![0, v826.toNat, 192]
def k0_off51 (d0 : Dev nD) : Fin 3 → Nat :=
  let c0_796 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_795 : BitVec 32 := 256#32
  let v865 : BitVec 32 := Scalar.muli v584 c256_i32_795
  let v866 : Index := Scalar.indexCast v865
  let c256_797 : Index := 256#32
  ![0, v866.toNat, 256]
def k0_off52 (d0 : Dev nD) : Fin 3 → Nat :=
  let c0_800 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_798 : BitVec 32 := 256#32
  let v869 : BitVec 32 := Scalar.muli v596 c256_i32_798
  let c128_i32_799 : BitVec 32 := 128#32
  let v870 : BitVec 32 := Scalar.addi v869 c128_i32_799
  let v871 : Index := Scalar.indexCast v870
  let c256_801 : Index := 256#32
  ![0, v871.toNat, 256]
def k0_off53 (d0 : Dev nD) : Fin 3 → Nat :=
  let c0_829 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_828 : BitVec 32 := 256#32
  let v910 : BitVec 32 := Scalar.muli v584 c256_i32_828
  let v911 : Index := Scalar.indexCast v910
  let c320_830 : Index := 320#32
  ![0, v911.toNat, 320]
def k0_off54 (d0 : Dev nD) : Fin 3 → Nat :=
  let c0_833 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_831 : BitVec 32 := 256#32
  let v914 : BitVec 32 := Scalar.muli v596 c256_i32_831
  let c128_i32_832 : BitVec 32 := 128#32
  let v915 : BitVec 32 := Scalar.addi v914 c128_i32_832
  let v916 : Index := Scalar.indexCast v915
  let c320_834 : Index := 320#32
  ![0, v916.toNat, 320]
def k0_off55 (d0 : Dev nD) : Fin 3 → Nat :=
  let c0_862 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_861 : BitVec 32 := 256#32
  let v955 : BitVec 32 := Scalar.muli v584 c256_i32_861
  let v956 : Index := Scalar.indexCast v955
  let c384_863 : Index := 384#32
  ![0, v956.toNat, 384]
def k0_off56 (d0 : Dev nD) : Fin 3 → Nat :=
  let c0_866 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_864 : BitVec 32 := 256#32
  let v959 : BitVec 32 := Scalar.muli v596 c256_i32_864
  let c128_i32_865 : BitVec 32 := 128#32
  let v960 : BitVec 32 := Scalar.addi v959 c128_i32_865
  let v961 : Index := Scalar.indexCast v960
  let c384_867 : Index := 384#32
  ![0, v961.toNat, 384]
def k0_off57 (d0 : Dev nD) : Fin 3 → Nat :=
  let c0_895 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_894 : BitVec 32 := 256#32
  let v1000 : BitVec 32 := Scalar.muli v584 c256_i32_894
  let v1001 : Index := Scalar.indexCast v1000
  let c448_896 : Index := 448#32
  ![0, v1001.toNat, 448]
def k0_off58 (d0 : Dev nD) : Fin 3 → Nat :=
  let c0_899 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_897 : BitVec 32 := 256#32
  let v1004 : BitVec 32 := Scalar.muli v596 c256_i32_897
  let c128_i32_898 : BitVec 32 := 128#32
  let v1005 : BitVec 32 := Scalar.addi v1004 c128_i32_898
  let v1006 : Index := Scalar.indexCast v1005
  let c448_900 : Index := 448#32
  ![0, v1006.toNat, 448]
def k0_off59 (d0 : Dev nD) : Fin 3 → Nat :=
  let c1_928 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_927 : BitVec 32 := 256#32
  let v1045 : BitVec 32 := Scalar.muli v584 c256_i32_927
  let v1046 : Index := Scalar.indexCast v1045
  let c0_929 : Index := 0#32
  ![1, v1046.toNat, 0]
def k0_off60 (d0 : Dev nD) : Fin 3 → Nat :=
  let c1_932 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_930 : BitVec 32 := 256#32
  let v1049 : BitVec 32 := Scalar.muli v596 c256_i32_930
  let c128_i32_931 : BitVec 32 := 128#32
  let v1050 : BitVec 32 := Scalar.addi v1049 c128_i32_931
  let v1051 : Index := Scalar.indexCast v1050
  let c0_933 : Index := 0#32
  ![1, v1051.toNat, 0]
def k0_off61 (d0 : Dev nD) : Fin 3 → Nat :=
  let c1_961 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_960 : BitVec 32 := 256#32
  let v1090 : BitVec 32 := Scalar.muli v584 c256_i32_960
  let v1091 : Index := Scalar.indexCast v1090
  let c64_962 : Index := 64#32
  ![1, v1091.toNat, 64]
def k0_off62 (d0 : Dev nD) : Fin 3 → Nat :=
  let c1_965 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_963 : BitVec 32 := 256#32
  let v1094 : BitVec 32 := Scalar.muli v596 c256_i32_963
  let c128_i32_964 : BitVec 32 := 128#32
  let v1095 : BitVec 32 := Scalar.addi v1094 c128_i32_964
  let v1096 : Index := Scalar.indexCast v1095
  let c64_966 : Index := 64#32
  ![1, v1096.toNat, 64]
def k0_off63 (d0 : Dev nD) : Fin 3 → Nat :=
  let c1_994 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_993 : BitVec 32 := 256#32
  let v1135 : BitVec 32 := Scalar.muli v584 c256_i32_993
  let v1136 : Index := Scalar.indexCast v1135
  let c128_995 : Index := 128#32
  ![1, v1136.toNat, 128]
def k0_off64 (d0 : Dev nD) : Fin 3 → Nat :=
  let c1_998 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_996 : BitVec 32 := 256#32
  let v1139 : BitVec 32 := Scalar.muli v596 c256_i32_996
  let c128_i32_997 : BitVec 32 := 128#32
  let v1140 : BitVec 32 := Scalar.addi v1139 c128_i32_997
  let v1141 : Index := Scalar.indexCast v1140
  let c128_999 : Index := 128#32
  ![1, v1141.toNat, 128]
def k0_off65 (d0 : Dev nD) : Fin 3 → Nat :=
  let c1_1027 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_1026 : BitVec 32 := 256#32
  let v1180 : BitVec 32 := Scalar.muli v584 c256_i32_1026
  let v1181 : Index := Scalar.indexCast v1180
  let c192_1028 : Index := 192#32
  ![1, v1181.toNat, 192]
def k0_off66 (d0 : Dev nD) : Fin 3 → Nat :=
  let c1_1031 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_1029 : BitVec 32 := 256#32
  let v1184 : BitVec 32 := Scalar.muli v596 c256_i32_1029
  let c128_i32_1030 : BitVec 32 := 128#32
  let v1185 : BitVec 32 := Scalar.addi v1184 c128_i32_1030
  let v1186 : Index := Scalar.indexCast v1185
  let c192_1032 : Index := 192#32
  ![1, v1186.toNat, 192]
def k0_off67 (d0 : Dev nD) : Fin 3 → Nat :=
  let c1_1060 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_1059 : BitVec 32 := 256#32
  let v1225 : BitVec 32 := Scalar.muli v584 c256_i32_1059
  let v1226 : Index := Scalar.indexCast v1225
  let c256_1061 : Index := 256#32
  ![1, v1226.toNat, 256]
def k0_off68 (d0 : Dev nD) : Fin 3 → Nat :=
  let c1_1064 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_1062 : BitVec 32 := 256#32
  let v1229 : BitVec 32 := Scalar.muli v596 c256_i32_1062
  let c128_i32_1063 : BitVec 32 := 128#32
  let v1230 : BitVec 32 := Scalar.addi v1229 c128_i32_1063
  let v1231 : Index := Scalar.indexCast v1230
  let c256_1065 : Index := 256#32
  ![1, v1231.toNat, 256]
def k0_off69 (d0 : Dev nD) : Fin 3 → Nat :=
  let c1_1093 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_1092 : BitVec 32 := 256#32
  let v1270 : BitVec 32 := Scalar.muli v584 c256_i32_1092
  let v1271 : Index := Scalar.indexCast v1270
  let c320_1094 : Index := 320#32
  ![1, v1271.toNat, 320]
def k0_off70 (d0 : Dev nD) : Fin 3 → Nat :=
  let c1_1097 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_1095 : BitVec 32 := 256#32
  let v1274 : BitVec 32 := Scalar.muli v596 c256_i32_1095
  let c128_i32_1096 : BitVec 32 := 128#32
  let v1275 : BitVec 32 := Scalar.addi v1274 c128_i32_1096
  let v1276 : Index := Scalar.indexCast v1275
  let c320_1098 : Index := 320#32
  ![1, v1276.toNat, 320]
def k0_off71 (d0 : Dev nD) : Fin 3 → Nat :=
  let c1_1126 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_1125 : BitVec 32 := 256#32
  let v1315 : BitVec 32 := Scalar.muli v584 c256_i32_1125
  let v1316 : Index := Scalar.indexCast v1315
  let c384_1127 : Index := 384#32
  ![1, v1316.toNat, 384]
def k0_off72 (d0 : Dev nD) : Fin 3 → Nat :=
  let c1_1130 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_1128 : BitVec 32 := 256#32
  let v1319 : BitVec 32 := Scalar.muli v596 c256_i32_1128
  let c128_i32_1129 : BitVec 32 := 128#32
  let v1320 : BitVec 32 := Scalar.addi v1319 c128_i32_1129
  let v1321 : Index := Scalar.indexCast v1320
  let c384_1131 : Index := 384#32
  ![1, v1321.toNat, 384]
def k0_off73 (d0 : Dev nD) : Fin 3 → Nat :=
  let c1_1159 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v573 : BitVec 32 := Scalar.subi v2 c6_i32_527
  let c1_i32_528 : BitVec 32 := 1#32
  let v574 : BitVec 32 := Scalar.subi v573 c1_i32_528
  let c8_i32_529 : BitVec 32 := 8#32
  let c0_i32_530 : BitVec 32 := 0#32
  let v575 : BitVec 1 := Scalar.cmpi .eq c8_i32_529 c0_i32_530
  let c1_i32_531 : BitVec 32 := 1#32
  let v576 : BitVec 32 := Scalar.select v575 c1_i32_531 c8_i32_529
  let v577 : BitVec 32 := Scalar.remsi v574 v576
  let c0_i32_533 : BitVec 32 := 0#32
  let v579 : BitVec 1 := Scalar.cmpi .slt v577 c0_i32_533
  let c0_i32_534 : BitVec 32 := 0#32
  let v580 : BitVec 1 := Scalar.cmpi .slt v576 c0_i32_534
  let v581 : BitVec 1 := Scalar.xori v579 v580
  let c0_i32_532 : BitVec 32 := 0#32
  let v578 : BitVec 1 := Scalar.cmpi .ne v577 c0_i32_532
  let v582 : BitVec 1 := Scalar.andi v581 v578
  let v583 : BitVec 32 := Scalar.addi v577 v576
  let v584 : BitVec 32 := Scalar.select v582 v583 v577
  let c256_i32_1158 : BitVec 32 := 256#32
  let v1360 : BitVec 32 := Scalar.muli v584 c256_i32_1158
  let v1361 : Index := Scalar.indexCast v1360
  let c448_1160 : Index := 448#32
  ![1, v1361.toNat, 448]
def k0_off74 (d0 : Dev nD) : Fin 3 → Nat :=
  let c1_1163 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_535 : BitVec 32 := 6#32
  let v585 : BitVec 32 := Scalar.addi v2 c6_i32_535
  let c1_i32_536 : BitVec 32 := 1#32
  let v586 : BitVec 32 := Scalar.addi v585 c1_i32_536
  let c8_i32_537 : BitVec 32 := 8#32
  let c0_i32_538 : BitVec 32 := 0#32
  let v587 : BitVec 1 := Scalar.cmpi .eq c8_i32_537 c0_i32_538
  let c1_i32_539 : BitVec 32 := 1#32
  let v588 : BitVec 32 := Scalar.select v587 c1_i32_539 c8_i32_537
  let v589 : BitVec 32 := Scalar.remsi v586 v588
  let c0_i32_541 : BitVec 32 := 0#32
  let v591 : BitVec 1 := Scalar.cmpi .slt v589 c0_i32_541
  let c0_i32_542 : BitVec 32 := 0#32
  let v592 : BitVec 1 := Scalar.cmpi .slt v588 c0_i32_542
  let v593 : BitVec 1 := Scalar.xori v591 v592
  let c0_i32_540 : BitVec 32 := 0#32
  let v590 : BitVec 1 := Scalar.cmpi .ne v589 c0_i32_540
  let v594 : BitVec 1 := Scalar.andi v593 v590
  let v595 : BitVec 32 := Scalar.addi v589 v588
  let v596 : BitVec 32 := Scalar.select v594 v595 v589
  let c256_i32_1161 : BitVec 32 := 256#32
  let v1364 : BitVec 32 := Scalar.muli v596 c256_i32_1161
  let c128_i32_1162 : BitVec 32 := 128#32
  let v1365 : BitVec 32 := Scalar.addi v1364 c128_i32_1162
  let v1366 : Index := Scalar.indexCast v1365
  let c448_1164 : Index := 448#32
  ![1, v1366.toNat, 448]
@[reducible] def k0_t2_loop : Scf.Loop 32 :=
  let c0_i32_1289 : BitVec 32 := 0#32
  let c6_i32_1290 : BitVec 32 := 6#32
  let v1453 : BitVec 32 := Scalar.addi c0_i32_1289 c6_i32_1290
  let c1_i32_1291 : BitVec 32 := 1#32
  ⟨c0_i32_1289, v1453, c1_i32_1291⟩
def k0_off75 (k0_t2 : Fin k0_t2_loop.trips) : Fin 2 → Nat :=
  let c0_i32_1289 : BitVec 32 := 0#32
  let c1_i32_1291 : BitVec 32 := 1#32
  let arg18 : BitVec 32 := Scf.iv c0_i32_1289 c1_i32_1291 k0_t2
  let c1_i32_1307 : BitVec 32 := 1#32
  let v1478 : BitVec 32 := Scalar.addi arg18 c1_i32_1307
  let c0_i32_1312 : BitVec 32 := 0#32
  ![v1478.toNat, 0]
def k0_off76 (d0 : Dev nD) (k0_t2 : Fin k0_t2_loop.trips) (c0_i32_1309 : BitVec 32) : Fin 3 → Nat :=
  let c0_i32_1315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1289 : BitVec 32 := 0#32
  let c1_i32_1291 : BitVec 32 := 1#32
  let arg18 : BitVec 32 := Scf.iv c0_i32_1289 c1_i32_1291 k0_t2
  let v1454 : BitVec 32 := Scalar.subi v2 arg18
  let c1_i32_1293 : BitVec 32 := 1#32
  let v1455 : BitVec 32 := Scalar.subi v1454 c1_i32_1293
  let c8_i32_1294 : BitVec 32 := 8#32
  let c0_i32_1295 : BitVec 32 := 0#32
  let v1456 : BitVec 1 := Scalar.cmpi .eq c8_i32_1294 c0_i32_1295
  let c1_i32_1296 : BitVec 32 := 1#32
  let v1457 : BitVec 32 := Scalar.select v1456 c1_i32_1296 c8_i32_1294
  let v1458 : BitVec 32 := Scalar.remsi v1455 v1457
  let c0_i32_1298 : BitVec 32 := 0#32
  let v1460 : BitVec 1 := Scalar.cmpi .slt v1458 c0_i32_1298
  let c0_i32_1299 : BitVec 32 := 0#32
  let v1461 : BitVec 1 := Scalar.cmpi .slt v1457 c0_i32_1299
  let v1462 : BitVec 1 := Scalar.xori v1460 v1461
  let c0_i32_1297 : BitVec 32 := 0#32
  let v1459 : BitVec 1 := Scalar.cmpi .ne v1458 c0_i32_1297
  let v1463 : BitVec 1 := Scalar.andi v1462 v1459
  let v1464 : BitVec 32 := Scalar.addi v1458 v1457
  let v1465 : BitVec 32 := Scalar.select v1463 v1464 v1458
  let c256_i32_1308 : BitVec 32 := 256#32
  let v1479 : BitVec 32 := Scalar.muli v1465 c256_i32_1308
  let v1480 : BitVec 32 := Scalar.addi v1479 c0_i32_1309
  let c0_i32_1316 : BitVec 32 := 0#32
  ![0, v1480.toNat, 0]
def k0_off77 (d0 : Dev nD) (k0_t2 : Fin k0_t2_loop.trips) (c0_i32_1334 : BitVec 32) : Fin 3 → Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1289 : BitVec 32 := 0#32
  let c1_i32_1291 : BitVec 32 := 1#32
  let arg18 : BitVec 32 := Scf.iv c0_i32_1289 c1_i32_1291 k0_t2
  let v1466 : BitVec 32 := Scalar.addi v2 arg18
  let c1_i32_1300 : BitVec 32 := 1#32
  let v1467 : BitVec 32 := Scalar.addi v1466 c1_i32_1300
  let c8_i32_1301 : BitVec 32 := 8#32
  let c0_i32_1302 : BitVec 32 := 0#32
  let v1468 : BitVec 1 := Scalar.cmpi .eq c8_i32_1301 c0_i32_1302
  let c1_i32_1303 : BitVec 32 := 1#32
  let v1469 : BitVec 32 := Scalar.select v1468 c1_i32_1303 c8_i32_1301
  let v1470 : BitVec 32 := Scalar.remsi v1467 v1469
  let c0_i32_1305 : BitVec 32 := 0#32
  let v1472 : BitVec 1 := Scalar.cmpi .slt v1470 c0_i32_1305
  let c0_i32_1306 : BitVec 32 := 0#32
  let v1473 : BitVec 1 := Scalar.cmpi .slt v1469 c0_i32_1306
  let v1474 : BitVec 1 := Scalar.xori v1472 v1473
  let c0_i32_1304 : BitVec 32 := 0#32
  let v1471 : BitVec 1 := Scalar.cmpi .ne v1470 c0_i32_1304
  let v1475 : BitVec 1 := Scalar.andi v1474 v1471
  let v1476 : BitVec 32 := Scalar.addi v1470 v1469
  let v1477 : BitVec 32 := Scalar.select v1475 v1476 v1470
  let c256_i32_1332 : BitVec 32 := 256#32
  let v1497 : BitVec 32 := Scalar.muli v1477 c256_i32_1332
  let c128_i32_1333 : BitVec 32 := 128#32
  let v1498 : BitVec 32 := Scalar.addi v1497 c128_i32_1333
  let v1499 : BitVec 32 := Scalar.addi v1498 c0_i32_1334
  let c0_i32_1342 : BitVec 32 := 0#32
  ![0, v1499.toNat, 0]
def k0_off78 (k0_t2 : Fin k0_t2_loop.trips) : Fin 2 → Nat :=
  let c0_i32_1289 : BitVec 32 := 0#32
  let c1_i32_1291 : BitVec 32 := 1#32
  let arg18 : BitVec 32 := Scf.iv c0_i32_1289 c1_i32_1291 k0_t2
  let c1_i32_1359 : BitVec 32 := 1#32
  let v1518 : BitVec 32 := Scalar.addi arg18 c1_i32_1359
  let c1_i32_1364 : BitVec 32 := 1#32
  ![v1518.toNat, 1]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x512 : Shape := ⟨3, ![2, 2048, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x8x64, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S_, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048, .f32⟩
  | .hbm, ⟨12, _⟩ => ⟨S2x8x2048x1, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S_, .f32⟩
  | .hbm, ⟨17, _⟩ => ⟨S2x8x2048, .f32⟩
  | .hbm, ⟨18, _⟩ => ⟨S2x8x2048x1, .f32⟩
  | .hbm, ⟨19, _⟩ => ⟨S2x8x2048x2048, .f32⟩
  | .hbm, ⟨20, _⟩ => ⟨S2x8x2048x2048, .f32⟩
  | .hbm, ⟨21, _⟩ => ⟨S2x8x64x2048, .f32⟩
  | .hbm, ⟨22, _⟩ => ⟨S2x2048x8x64, .f32⟩
  | .hbm, ⟨23, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Text.lean ====
/- The kernel's body written again as a composition of a few parametric pieces: a wait for one
   chunk, a send of one chunk, one head of the device's own block, one head of a hop. The equation
   `body_eq` says that the printed body is this composition. -/
module

public import proofs.«01_k».proof.Proof.Gen.KernelIdeal.Skeleton
public import proofs.«01_k».proof.Proof.Gen.KernelIdeal.Points

@[expose] public section

noncomputable section

namespace Cert.Proof.Ker

open Cert.KernelIdeal Cert.KernelIdeal.Gen
open Idealize.ShloMosaic Idealize.ShloMosaic.TcCoe Idealize.SL Idealize.SL.Sem

variable {F : FTy → Type} [FloatOps F]

/-- Programs of the kernel's body. -/
abbrev Pr (F : FTy → Type) (α : Type) := Prog (TpuEff nD τ sig (Elt F) Λ₀ .tc) α

abbrev qM : Memref sig .tc .vmem S2x256x512 .f32 := Memref.whole cc0_stg0_0
abbrev kM : Memref sig .tc .vmem S2x256x512 .f32 := Memref.whole cc0_stg1_0
abbrev vM : Memref sig .tc .vmem S2x256x512 .f32 := Memref.whole cc0_stg2_0
abbrev oM : Memref sig .tc .vmem S2x256x512 .f32 := Memref.whole cc0_stg3_0
abbrev kgM : Memref sig .tc .vmem S2x2048x512 .fp8e4m3 := Memref.whole cc0_scratch0
abbrev vgM : Memref sig .tc .vmem S2x2048x512 .fp8e4m3 := Memref.whole cc0_scratch1
abbrev lM : Memref sig .tc .vmem S2x256x512 .f32 := Memref.whole cc0_scratch2
abbrev qsM : Memref sig .tc .vmem S2x256x512 .bf16 := Memref.whole cc0_scratch3
abbrev kbM : Memref sig .tc .vmem S2x256x512 .fp8e4m3 := Memref.whole cc0_scratch4
abbrev vbM : Memref sig .tc .vmem S2x256x512 .fp8e4m3 := Memref.whole cc0_scratch5

/-- One cell of a semaphore array. -/
abbrev rsem (S : DmaSems sig S7x2) (o : Fin 2 → ℕ)
    (h : ∀ a, o a + S1x1.size a ≤ S7x2.size a) : DmaSem sig :=
  ((S.slice (Rect.unit (s := S7x2) o S1x1.size h)).squeeze S_ squeezes_S1x1_S_).sem

/-- The gathered buffer of kind `k`: keys for kinds 0 and 2, values for 1 and 3. The kinds 0 and 1
    travel to the right, 2 and 3 to the left. -/
abbrev G : Fin 4 → Memref sig .tc .vmem S2x2048x512 .fp8e4m3
  | 0 => kgM | 1 => vgM | 2 => kgM | 3 => vgM

/-- The device's own cast block of kind `k`. -/
abbrev B : Fin 4 → Memref sig .tc .vmem S2x256x512 .fp8e4m3
  | 0 => kbM | 1 => vbM | 2 => kbM | 3 => vbM

theorem G_whole : ∀ k, (G k).IsWhole
  | 0 => Memref.isWhole_whole _ | 1 => Memref.isWhole_whole _ | 2 => Memref.isWhole_whole _ | 3 => Memref.isWhole_whole _

theorem B_whole : ∀ k, (B k).IsWhole
  | 0 => Memref.isWhole_whole _ | 1 => Memref.isWhole_whole _ | 2 => Memref.isWhole_whole _ | 3 => Memref.isWhole_whole _

abbrev gSl (k : Fin 4) (o : Fin 3 → ℕ) (ho : ∀ a, o a + S2x64x512.size a ≤ S2x2048x512.size a) :
    Memref sig .tc .vmem S2x64x512 .fp8e4m3 :=
  (G k).slice (Rect.unit (s := S2x2048x512) o S2x64x512.size ho) (fun _ => rfl)

abbrev bSl (k : Fin 4) (o : Fin 3 → ℕ) (ho : ∀ a, o a + S2x64x512.size a ≤ S2x256x512.size a) :
    Memref sig .tc .vmem S2x64x512 .fp8e4m3 :=
  (B k).slice (Rect.unit (s := S2x256x512) o S2x64x512.size ho) (fun _ => rfl)

/-- A send of a chunk of a gathered buffer to the same rows of device `n`'s. -/
def fwdR (k : Fin 4) (o : Fin 3 → ℕ) (ho : ∀ a, o a + S2x64x512.size a ≤ S2x2048x512.size a)
    (hw : (Rect.unit (s := S2x2048x512) o S2x64x512.size ho).WholeWords (EltTy.packing .fp8e4m3))
    (n : Dev nD) (x y : DmaSem sig) : Pr F PUnit :=
  Prog.lift (.enqueueDma (gSl k o ho) (.remote (Dev.tc n) (gSl k o ho) (.dma x)) (.dma y)
    ((G_whole k).wordExact_slice rfl _ hw) ((G_whole k).wordExact_slice rfl _ hw) ⟨⟨rfl, Or.inl rfl⟩, trivial⟩)

/-- A send of a chunk of the own block to device `n`'s gathered buffer. -/
def ownR (k : Fin 4) (p : Fin 3 → ℕ) (hp : ∀ a, p a + S2x64x512.size a ≤ S2x256x512.size a)
    (hwp : (Rect.unit (s := S2x256x512) p S2x64x512.size hp).WholeWords (EltTy.packing .fp8e4m3))
    (o : Fin 3 → ℕ) (ho : ∀ a, o a + S2x64x512.size a ≤ S2x2048x512.size a)
    (hw : (Rect.unit (s := S2x2048x512) o S2x64x512.size ho).WholeWords (EltTy.packing .fp8e4m3))
    (n : Dev nD) (x y : DmaSem sig) : Pr F PUnit :=
  Prog.lift (.enqueueDma (bSl k p hp) (.remote (Dev.tc n) (gSl k o ho) (.dma x)) (.dma y)
    ((B_whole k).wordExact_slice rfl _ hwp) ((G_whole k).wordExact_slice rfl _ hw) ⟨⟨rfl, Or.inl rfl⟩, trivial⟩)

theorem gInb (n : Fin 32) : ∀ a, (![0, 64 * n.1, 0] : Fin 3 → ℕ) a + S2x64x512.size a ≤ S2x2048x512.size a := by
  revert n; decide
theorem bInb (n : Fin 4) : ∀ a, (![0, 64 * n.1, 0] : Fin 3 → ℕ) a + S2x64x512.size a ≤ S2x256x512.size a := by
  revert n; decide
theorem gWords : ∀ n : Fin 32, (Rect.unit (s := S2x2048x512) ![0, 64 * n.1, 0] S2x64x512.size (gInb n)).WholeWords (EltTy.packing .fp8e4m3) := by
  decide +kernel
theorem bWords : ∀ n : Fin 4, (Rect.unit (s := S2x256x512) ![0, 64 * n.1, 0] S2x64x512.size (bInb n)).WholeWords (EltTy.packing .fp8e4m3) := by
  decide +kernel

/-- Chunk `n` (64 rows) of the gathered buffer of kind `k`. -/
abbrev gCh (k : Fin 4) (n : Fin 32) := gSl k ![0, 64 * n.1, 0] (gInb n)
/-- Chunk `n` of the own block of kind `k`. -/
abbrev bCh (k : Fin 4) (n : Fin 4) := bSl k ![0, 64 * n.1, 0] (bInb n)

theorem G_has (k : Fin 4) : ((G k).view.ref).HasMemref S2x64x512 .fp8e4m3 := (gCh k 0).hasMemref
theorem B_has (k : Fin 4) : ((B k).view.ref).HasMemref S2x64x512 .fp8e4m3 := (bCh k 0).hasMemref

/-- A wait on a cell for one chunk, sized by the gathered buffer. -/
def gWait (k : Fin 4) (x : DmaSem sig) : Pr F PUnit :=
  Prog.lift (.waitDma x (G k).view.ref S2x64x512 .fp8e4m3 (.inr (G_has k)))

/-- A wait on a cell for one chunk, sized by the own block. -/
def bWait (k : Fin 4) (x : DmaSem sig) : Pr F PUnit :=
  Prog.lift (.waitDma x (B k).view.ref S2x64x512 .fp8e4m3 (.inr (B_has k)))

/-- The semaphore cell of hop `t` and sub-chunk `s` of array `a`: the arrays `2 k` credit the sender of
    kind `k`, the arrays `2 k + 1` the receiver. -/
def cs (a : Fin 8) (t : Fin 7) (s : Fin 2) : DmaSem sig := ⟨4 + 14 * a.1 + 2 * t.1 + s.1, by
  have : sig.nDmaSem = 116 := rfl
  omega⟩

abbrev sendS (k : Fin 4) (t : Fin 7) (s : Fin 2) : DmaSem sig := cs ⟨2 * k.1, by omega⟩ t s
abbrev recvS (k : Fin 4) (t : Fin 7) (s : Fin 2) : DmaSem sig := cs ⟨2 * k.1 + 1, by omega⟩ t s

abbrev rgt (c : Dev nD) : Dev nD := ⟨(c.1 + 1) % 8, Nat.mod_lt _ (by decide)⟩
abbrev lft (c : Dev nD) : Dev nD := ⟨(c.1 + 7) % 8, Nat.mod_lt _ (by decide)⟩

/-- Where device `c` sends chunks of kind `k`. -/
def peer (k : Fin 4) (c : Dev nD) : Dev nD := if k.1 < 2 then rgt c else lft c

/-- The block that device `c` sends at hop `t`. -/
def blkOf (k : Fin 4) (c : Dev nD) (t : ℕ) : ℕ := if k.1 < 2 then (c.1 + 8 - t) % 8 else (c.1 + t) % 8

theorem blkOf_lt (k : Fin 4) (c : Dev nD) (t : ℕ) : blkOf k c t < 8 := by
  unfold blkOf; split <;> exact Nat.mod_lt _ (by decide)

/-- A chunk of a block: rows 0 to 128 go to the right, rows 128 to 256 to the left. -/
def sub (k : Fin 4) (s : Fin 2) : Fin 4 := if k.1 < 2 then ⟨s.1, by omega⟩ else ⟨2 + s.1, by omega⟩

/-- The chunk that device `c` sends at hop `t`. -/
def chk (k : Fin 4) (c : Dev nD) (t : ℕ) (s : Fin 2) : Fin 32 :=
  ⟨4 * blkOf k c t + (sub k s).1, by have := blkOf_lt k c t; have := (sub k s).2; omega⟩

/-- Device `c` sends its own chunk. -/
def sendOwn (c : Dev nD) (k : Fin 4) (s : Fin 2) : Pr F PUnit :=
  ownR k ![0, 64 * (sub k s).1, 0] (bInb (sub k s)) (bWords (sub k s))
    ![0, 64 * (chk k c 0 s).1, 0] (gInb (chk k c 0 s)) (gWords (chk k c 0 s)) (peer k c) (sendS k 0 s) (recvS k 0 s)

/-- Device `c` passes on, at hop `t`, the chunk it got at the hop before. -/
def fwd (c : Dev nD) (k : Fin 4) (t : Fin 7) (s : Fin 2) : Pr F PUnit :=
  fwdR k ![0, 64 * (chk k c t.1 s).1, 0] (gInb (chk k c t.1 s)) (gWords (chk k c t.1 s)) (peer k c) (sendS k t s) (recvS k t s)

/-- The waits of one sub-chunk of hop `t`. -/
def recv4 (t : Fin 7) (s : Fin 2) : Pr F PUnit := do
  gWait 0 (recvS 0 t s)
  gWait 1 (recvS 1 t s)
  gWait 2 (recvS 2 t s)
  gWait 3 (recvS 3 t s)

/-- The forwards of one sub-chunk. -/
def fwd4 (c : Dev nD) (t : Fin 7) (s : Fin 2) : Pr F PUnit := do
  fwd c 0 t s
  fwd c 1 t s
  fwd c 2 t s
  fwd c 3 t s

/-- The own sends of one sub-chunk. -/
def own4 (c : Dev nD) (s : Fin 2) : Pr F PUnit := do
  sendOwn c 0 s
  sendOwn c 1 s
  sendOwn c 2 s
  sendOwn c 3 s

/-- The waits for the own sends of one sub-chunk. -/
def drainOwn4 (s : Fin 2) : Pr F PUnit := do
  bWait 0 (sendS 0 0 s)
  bWait 1 (sendS 1 0 s)
  bWait 2 (sendS 2 0 s)
  bWait 3 (sendS 3 0 s)

/-- The waits for the forwards of one sub-chunk. -/
def drain4 (t : Fin 7) (s : Fin 2) : Pr F PUnit := do
  gWait 0 (sendS 0 t s)
  gWait 1 (sendS 1 t s)
  gWait 2 (sendS 2 t s)
  gWait 3 (sendS 3 t s)

/-- The rows a head of a hop reads of a gathered block. -/
theorem inbG (b : Fin 2) (r : ℕ) (hr : r + 128 ≤ 2048) (h : Fin 8) :
    ∀ a, (![b.1, r, 64 * h.1] : Fin 3 → Nat) a + S1x128x64.size a ≤ S2x2048x512.size a := by
  intro a; fin_cases a
  · show b.1 + 1 ≤ 2; omega
  · exact hr
  · show 64 * h.1 + 64 ≤ 512; omega

/-- The part of a whole block that one head reads and writes. -/
theorem inbH (b : Fin 2) (h : Fin 8) :
    ∀ a, (![b.1, 0, 64 * h.1] : Fin 3 → Nat) a + S1x256x64.size a ≤ S2x256x512.size a := by
  intro a; fin_cases a
  · show b.1 + 1 ≤ 2; omega
  · show 0 + 256 ≤ 256; omega
  · show 64 * h.1 + 64 ≤ 512; omega

/-- The 128 rows of a gathered block one head reads. -/
abbrev rG (b : Fin 2) (r : ℕ) (hr : r + 128 ≤ 2048) (h : Fin 8) : Rect S2x2048x512 :=
  Rect.unit (s := S2x2048x512) ![b.1, r, 64 * h.1] S1x128x64.size (inbG b r hr h)

abbrev rH (b : Fin 2) (h : Fin 8) : Rect S2x256x512 :=
  Rect.unit (s := S2x256x512) ![b.1, 0, 64 * h.1] S1x256x64.size (inbH b h)

/-- The new part of the weighted sum after one head of a hop. -/
def outHop (kA kB vA vB : Vec F S1x128x64 .fp8e4m3) (q : Vec F S1x256x64 .bf16)
    (o : Vec F S1x256x64 .f32) : Vec F S1x256x64 .f32 := k0_pay3 (k0_pay1 kA) kB vA vB q o

/-- The new part of the normaliser after one head of a hop. -/
def lHop (kA kB : Vec F S1x128x64 .fp8e4m3) (q : Vec F S1x256x64 .bf16)
    (l : Vec F S1x256x64 .f32) : Vec F S1x256x64 .f32 := k0_pay5 (k0_pay2 (k0_pay1 kA) kB q) (k0_pay4 l)

/-- The new part of the weighted sum after one head of the own block. -/
def outOwn (k v : Vec F S1x256x64 .fp8e4m3) (q : Vec F S1x256x64 .bf16)
    (o : Vec F S1x256x64 .f32) : Vec F S1x256x64 .f32 := k0_pay91 k v q o

/-- The new part of the normaliser after one head of the own block. -/
def lOwn (k : Vec F S1x256x64 .fp8e4m3) (q : Vec F S1x256x64 .bf16)
    (l : Vec F S1x256x64 .f32) : Vec F S1x256x64 .f32 := k0_pay94 (k0_pay92 l) (k0_pay93 k q)

/-- One head of a hop: 128 rows of the block that came from the left and 128 of the one from the right. -/
def headHop (rA rB : ℕ) (hA : rA + 128 ≤ 2048) (hB : rB + 128 ≤ 2048) (b : Fin 2) (h : Fin 8) : Pr F PUnit := do
  let kA : Vec F S1x128x64 .fp8e4m3 ← Prog.lift (.load kgM (rG b rA hA h).toLoadRect (View.loadsAt_vmem h_S1x128x64))
  let kB : Vec F S1x128x64 .fp8e4m3 ← Prog.lift (.load kgM (rG b rB hB h).toLoadRect (View.loadsAt_vmem h_S1x128x64))
  let vA : Vec F S1x128x64 .fp8e4m3 ← Prog.lift (.load vgM (rG b rA hA h).toLoadRect (View.loadsAt_vmem h_S1x128x64))
  let vB : Vec F S1x128x64 .fp8e4m3 ← Prog.lift (.load vgM (rG b rB hB h).toLoadRect (View.loadsAt_vmem h_S1x128x64))
  let q : Vec F S1x256x64 .bf16 ← Prog.lift (.load qsM (rH b h).toLoadRect (View.loadsAt_vmem h_S1x256x64))
  let o : Vec F S1x256x64 .f32 ← Prog.lift (.load oM (rH b h).toLoadRect (View.loadsAt_vmem h_S1x256x64))
  let _ : Vec F S1x256x64 .f32 ← Prog.lift (.load oM (rH b h).toLoadRect (View.loadsAt_vmem h_S1x256x64))
  Prog.lift (.store oM (rH b h) (outHop kA kB vA vB q o) Finset.univ (View.stores_vmem_bits_univ h_S1x256x64 rfl) (.inl rfl))
  let l : Vec F S1x256x64 .f32 ← Prog.lift (.load lM (rH b h).toLoadRect (View.loadsAt_vmem h_S1x256x64))
  let _ : Vec F S1x256x64 .f32 ← Prog.lift (.load lM (rH b h).toLoadRect (View.loadsAt_vmem h_S1x256x64))
  Prog.lift (.store lM (rH b h) (lHop kA kB q l) Finset.univ (View.stores_vmem_bits_univ h_S1x256x64 rfl) (.inl rfl))

/-- One head of the own block. -/
def headOwn (b : Fin 2) (h : Fin 8) : Pr F PUnit := do
  let k : Vec F S1x256x64 .fp8e4m3 ← Prog.lift (.load kbM (rH b h).toLoadRect (View.loadsAt_vmem h_S1x256x64))
  let v : Vec F S1x256x64 .fp8e4m3 ← Prog.lift (.load vbM (rH b h).toLoadRect (View.loadsAt_vmem h_S1x256x64))
  let q : Vec F S1x256x64 .bf16 ← Prog.lift (.load qsM (rH b h).toLoadRect (View.loadsAt_vmem h_S1x256x64))
  let o : Vec F S1x256x64 .f32 ← Prog.lift (.load oM (rH b h).toLoadRect (View.loadsAt_vmem h_S1x256x64))
  let _ : Vec F S1x256x64 .f32 ← Prog.lift (.load oM (rH b h).toLoadRect (View.loadsAt_vmem h_S1x256x64))
  Prog.lift (.store oM (rH b h) (outOwn k v q o) Finset.univ (View.stores_vmem_bits_univ h_S1x256x64 rfl) (.inl rfl))
  let l : Vec F S1x256x64 .f32 ← Prog.lift (.load lM (rH b h).toLoadRect (View.loadsAt_vmem h_S1x256x64))
  let _ : Vec F S1x256x64 .f32 ← Prog.lift (.load lM (rH b h).toLoadRect (View.loadsAt_vmem h_S1x256x64))
  Prog.lift (.store lM (rH b h) (lOwn k q l) Finset.univ (View.stores_vmem_bits_univ h_S1x256x64 rfl) (.inl rfl))

/-- The sixteen parts, in the order the body goes through them. -/
abbrev parts : List (Fin 2 × Fin 8) :=
  [(0, 0), (0, 1), (0, 2), (0, 3), (0, 4), (0, 5), (0, 6), (0, 7),
   (1, 0), (1, 1), (1, 2), (1, 3), (1, 4), (1, 5), (1, 6), (1, 7)]

/-- The pieces of a list, one after the other, then `k`. -/
def seqP {α : Type} (f : Fin 2 × Fin 8 → Pr F PUnit) (k : Pr F α) : List (Fin 2 × Fin 8) → Pr F α
  | [] => k
  | x :: xs => (f x).bind fun _ => seqP f k xs

/-- The rows of the half block that came from the left at hop `t`, and of the one from the right. -/
def rowA (c : Dev nD) (t : ℕ) : ℕ := 256 * blkOf 0 c (t + 1)
def rowB (c : Dev nD) (t : ℕ) : ℕ := 256 * blkOf 2 c (t + 1) + 128
theorem rowA_le (c : Dev nD) (t : ℕ) : rowA c t + 128 ≤ 2048 := by have := blkOf_lt 0 c (t + 1); unfold rowA; omega
theorem rowB_le (c : Dev nD) (t : ℕ) : rowB c t + 128 ≤ 2048 := by have := blkOf_lt 2 c (t + 1); unfold rowB; omega

/-- The sixteen heads of hop `t`, then `k`. -/
def headsHop {α : Type} (c : Dev nD) (t : ℕ) (k : Pr F α) : Pr F α :=
  seqP (fun x => headHop (rowA c t) (rowB c t) (rowA_le c t) (rowB_le c t) x.1 x.2) k parts

/-- One trip of the hop loop. -/
def trip (c : Dev nD) (t : Fin 6) : Pr F Unit := do
  recv4 t.castSucc 0
  fwd4 c t.succ 0
  recv4 t.castSucc 1
  fwd4 c t.succ 1
  headsHop c t.1 (pure ⟨⟩)

/-- One trip of the loop that waits for the forwards. -/
def drainTrip (t : Fin 6) : Pr F Unit := do
  drain4 t.succ 0
  drain4 t.succ 1
  pure ⟨⟩

theorem inbF (b : Fin 2) : ∀ a, (![b.1, 0, 0] : Fin 3 → Nat) a + S1x256x512.size a ≤ S2x256x512.size a := by
  revert b; decide

/-- One batch entry of the output. -/
abbrev rF (b : Fin 2) : Rect S2x256x512 := Rect.unit (s := S2x256x512) ![b.1, 0, 0] S1x256x512.size (inbF b)

/-- The division of one batch entry by the normaliser. -/
def finish (b : Fin 2) : Pr F PUnit := do
  let o : Vec F S1x256x512 .f32 ← Prog.lift (.load oM (rF b).toLoadRect (View.loadsAt_vmem h_S1x256x512))
  let l : Vec F S1x256x512 .f32 ← Prog.lift (.load lM (rF b).toLoadRect (View.loadsAt_vmem h_S1x256x512))
  let _ : Vec F S1x256x512 .f32 ← Prog.lift (.load oM (rF b).toLoadRect (View.loadsAt_vmem h_S1x256x512))
  Prog.lift (.store oM (rF b) (k0_pay242 o l) Finset.univ (View.stores_vmem_bits_univ h_S1x256x512 rfl) (.inl rfl))

/-- The barrier semaphore. -/
abbrev barS : Sem sig := (SemArray.scalar (sig.barrier 0 rfl) : Sems sig S_).sem

theorem t1_lt (t : Fin k0_t1_loop.trips) : t.1 < 6 := t.2
theorem t2_lt (t : Fin k0_t2_loop.trips) : t.1 < 6 := t.2

/-- The handshake of the neighbours. -/
def hello (c : Dev nD) : Pr F PUnit := do
  semSignalWord (lft c) barS 1#32
  semSignalWord (rgt c) barS 1#32
  semWaitWord barS 2#32

/-- The whole of a buffer the size of a block. -/
abbrev rW : Rect S2x256x512 := Rect.unit (s := S2x256x512) ![0, 0, 0] S2x256x512.size inb_S2x256x512_S2x256x512_0_0_0

/-- The casts of the own keys and values. -/
def casts : Pr F PUnit := do
  let k : Vec F S2x256x512 .f32 ← Prog.lift (.load kM rW.toLoadRect (View.loadsAt_vmem h_S2x256x512))
  let _ : Vec F S2x256x512 .fp8e4m3 ← Prog.lift (.load kbM rW.toLoadRect (View.loadsAt_vmem h_S2x256x512))
  Prog.lift (.store kbM rW (k0_pay85 k) Finset.univ (View.stores_vmem h_S2x256x512 ((Memref.isWhole_whole cc0_scratch4).storeExact_slice rfl _ packedfp8e4m3_S2x256x512_S2x256x512_0_0_0) (fun _ => rfl)) (.inl rfl))
  let v : Vec F S2x256x512 .f32 ← Prog.lift (.load vM rW.toLoadRect (View.loadsAt_vmem h_S2x256x512))
  let _ : Vec F S2x256x512 .fp8e4m3 ← Prog.lift (.load vbM rW.toLoadRect (View.loadsAt_vmem h_S2x256x512))
  Prog.lift (.store vbM rW (k0_pay85 v) Finset.univ (View.stores_vmem h_S2x256x512 ((Memref.isWhole_whole cc0_scratch5).storeExact_slice rfl _ packedfp8e4m3_S2x256x512_S2x256x512_0_0_0) (fun _ => rfl)) (.inl rfl))

/-- The zeroing of the sums, and the scaled queries. -/
def inits : Pr F PUnit := do
  let _ : Vec F S2x256x512 .f32 ← Prog.lift (.load oM rW.toLoadRect (View.loadsAt_vmem h_S2x256x512))
  Prog.lift (.store oM rW (k0_pay87 (F := F)) Finset.univ (View.stores_vmem_bits_univ h_S2x256x512 rfl) (.inl rfl))
  let _ : Vec F S2x256x512 .f32 ← Prog.lift (.load lM rW.toLoadRect (View.loadsAt_vmem h_S2x256x512))
  Prog.lift (.store lM rW (k0_pay87 (F := F)) Finset.univ (View.stores_vmem_bits_univ h_S2x256x512 rfl) (.inl rfl))
  let q : Vec F S2x256x512 .f32 ← Prog.lift (.load qM rW.toLoadRect (View.loadsAt_vmem h_S2x256x512))
  let _ : Vec F S2x256x512 .bf16 ← Prog.lift (.load qsM rW.toLoadRect (View.loadsAt_vmem h_S2x256x512))
  Prog.lift (.store qsM rW (k0_pay89 q) Finset.univ (View.stores_vmem h_S2x256x512 ((Memref.isWhole_whole cc0_scratch3).storeExact_slice rfl _ packedbf16_S2x256x512_S2x256x512_0_0_0) (fun _ => rfl)) (.inl rfl))

/-- The last hop, the division and the waits for the own sends. -/
def tailP (c : Dev nD) : Pr F PUnit := do
  recv4 6 0
  recv4 6 1
  headsHop c 6 (do
    finish 0
    finish 1
    drainOwn4 0
    drainOwn4 1
    Scf.Loop.for k0_t2_loop k0_t2_ok ⟨⟩ (fun t _ => drainTrip ⟨t.1, t2_lt t⟩)
    pure ⟨⟩)

/-- The body of device `c`. -/
def mainP (c : Dev nD) : Pr F PUnit := do
  hello c
  casts
  own4 c 0
  own4 c 1
  inits
  seqP (fun x => headOwn x.1 x.2) (do
    Scf.Loop.for k0_t1_loop k0_t1_ok ⟨⟩ (fun t _ => trip c ⟨t.1, t1_lt t⟩)
    tailP c) parts

end Cert.Proof.Ker
-- ==== Proof.Common.lean ====
/- The protocol of the kernel's copies: the cells, the contents that each landing hands over, the
   schedule of duties, what each device owes, the levels of the cells. -/
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the copies' own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- A transfer: its hop, its sub-chunk, its kind. -/
abbrev X : Type := Fin 7 × Fin 2 × Fin 4

/-! ## The neighbours -/

/-- Where the chunks of kind `k` that device `c` gets come from. -/
def frm (k : Fin 4) (c : Dev nD) : Dev nD := if k.1 < 2 then lft c else rgt c

theorem peer_frm : ∀ (k : Fin 4) (c : Dev nD), peer k (frm k c) = c := by decide
theorem frm_peer : ∀ (k : Fin 4) (c : Dev nD), frm k (peer k c) = c := by decide
theorem rgt_lft : ∀ c : Dev nD, rgt (lft c) = c := by decide
theorem lft_rgt : ∀ c : Dev nD, lft (rgt c) = c := by decide
theorem lft_ne_rgt : ∀ c : Dev nD, lft c ≠ rgt c := by decide

/-- One step to the right, as a permutation. -/
def ring : Dev nD ≃ Dev nD := ⟨rgt, lft, lft_rgt, rgt_lft⟩
/-- The step of kind `k`, as a permutation. -/
def stepE (k : Fin 4) : Dev nD ≃ Dev nD := ⟨peer k, frm k, frm_peer k, peer_frm k⟩

/-- The chunk that a device gets at hop `t` is the one that it sends at the next. -/
theorem chk_peer : ∀ (k : Fin 4) (c : Dev nD) (t : Fin 7) (s : Fin 2), chk k (peer k c) (t.1 + 1) s = chk k c t.1 s := by
  decide +kernel

/-! ## The cells -/

abbrev dcell (c : Dev nD) (q : DmaSem sig) : GSem nD τ sig := ((c : Thread nD τ), .dma q)
abbrev barCell (c : Dev nD) : GSem nD τ sig := ((c : Thread nD τ), .reg barS)

/-- The array, the hop and the sub-chunk of a semaphore. -/
def dec (q : DmaSem sig) : Fin 8 × Fin 7 × Fin 2 :=
  (⟨(q.1 - 4) / 14 % 8, Nat.mod_lt _ (by decide)⟩, ⟨(q.1 - 4) % 14 / 2, by omega⟩, ⟨(q.1 - 4) % 2, Nat.mod_lt _ (by decide)⟩)

theorem dec_cs (a : Fin 8) (t : Fin 7) (s : Fin 2) : dec (cs a t s) = (a, t, s) := by
  revert a t s; decide +kernel
theorem cs_ge (a : Fin 8) (t : Fin 7) (s : Fin 2) : 4 ≤ (cs a t s).1 := by unfold cs; show 4 ≤ 4 + 14 * a.1 + 2 * t.1 + s.1; omega

/-- The kind of an array, and whether it credits the receiver. -/
def kindOf (a : Fin 8) : Fin 4 := ⟨a.1 / 2, by omega⟩
def isRecv (a : Fin 8) : Bool := a.1 % 2 == 1

theorem kindOf_send (k : Fin 4) : kindOf ⟨2 * k.1, by omega⟩ = k := by revert k; decide
theorem kindOf_recv (k : Fin 4) : kindOf ⟨2 * k.1 + 1, by omega⟩ = k := by revert k; decide
theorem isRecv_send (k : Fin 4) : isRecv ⟨2 * k.1, by omega⟩ = false := by revert k; decide
theorem isRecv_recv (k : Fin 4) : isRecv ⟨2 * k.1 + 1, by omega⟩ = true := by revert k; decide

/-- The names of a device's cells: the barrier's, and for each transfer the one that credits the receiver
    (`true`) and the one that credits the sender (`false`). -/
abbrev CI : Type := Unit ⊕ (Bool × X)
/-- The semaphore of a transfer's cell. -/
def xsem (i : Bool × X) : DmaSem sig := if i.1 then recvS i.2.2.2 i.2.1 i.2.2.1 else sendS i.2.2.2 i.2.1 i.2.2.1
abbrev csem : CI → SemLoc sig := Sum.elim (fun _ => .reg barS) (fun i => .dma (xsem i))
abbrev kcell (ci : Dev nD × CI) : GSem nD τ sig := ((ci.1 : Thread nD τ), csem ci.2)

theorem xsem_injective : Function.Injective xsem := by
  have h : ∀ i, (isRecv (dec (xsem i)).1, (dec (xsem i)).2.1, (dec (xsem i)).2.2, kindOf (dec (xsem i)).1) = i := by
    rintro ⟨b, t, s, k⟩
    cases b <;> simp only [xsem, Bool.false_eq_true, if_true, if_false, dec_cs, kindOf_send, kindOf_recv, isRecv_send, isRecv_recv]
  intro i j hij
  rw [← h i, ← h j, hij]

/-- The credit of one chunk. -/
abbrev N : ℕ := (gCh 0 0).view.dmaCredit
theorem N_pos : 0 < N := View.dmaCredit_pos _ (by decide)
theorem gCh_credit (k : Fin 4) (n : Fin 32) : (gCh k n).view.dmaCredit = N := by
  fin_cases k <;> rfl
theorem gWait_credit (k : Fin 4) : (G k).view.ref.dmaCredit S2x64x512 .fp8e4m3 = N := by
  fin_cases k <;> rfl
theorem bWait_credit (k : Fin 4) : (B k).view.ref.dmaCredit S2x64x512 .fp8e4m3 = N := by
  fin_cases k <;> rfl

/-! ## Contents -/

/-- What the staging buffers of the three inputs hold. -/
def qst (c : Dev nD) : (cc0_stg0_0 : Ref sig .tc).ty.Contents (Elt F) :=
  (win0_0.blk (0 : Fin 1)).view.read (Elt F) (m ((c : Thread nD τ).loc main_arg0))
def kst (c : Dev nD) : (cc0_stg1_0 : Ref sig .tc).ty.Contents (Elt F) :=
  (win0_1.blk (0 : Fin 1)).view.read (Elt F) (m ((c : Thread nD τ).loc main_arg1))
def vst (c : Dev nD) : (cc0_stg2_0 : Ref sig .tc).ty.Contents (Elt F) :=
  (win0_2.blk (0 : Fin 1)).view.read (Elt F) (m ((c : Thread nD τ).loc main_arg2))

/-- The cast blocks of keys and of values. -/
def kC (c : Dev nD) : S2x256x512.Idx → Elt F .fp8e4m3 := k0_pay85 (kst m c)
def vC (c : Dev nD) : S2x256x512.Idx → Elt F .fp8e4m3 := k0_pay85 (vst m c)

/-- Blocks side by side along the rows. -/
def gath {e : EltTy} (f : Dev nD → S2x256x512.Idx → Elt F e) : S2x2048x512.Idx → Elt F e := fun i =>
  f ⟨(i 1).1 / 256, by have : (i 1).1 < 2048 := (i 1).2; show (i 1).1 / 256 < 8; omega⟩
    (fun a => match a with
      | 0 => i 0
      | 1 => ⟨(i 1).1 % 256, Nat.mod_lt _ (by decide)⟩
      | 2 => i 2)

/-- What the chunks of the gathered buffers hold once they have landed. -/
def GC : (k : Fin 4) → (G k).view.ty.Contents (Elt F)
  | 0 => gath (kC m) | 1 => gath (vC m) | 2 => gath (kC m) | 3 => gath (vC m)
/-- What the own cast blocks hold. -/
def BC (c : Dev nD) : (k : Fin 4) → (B k).view.ty.Contents (Elt F)
  | 0 => kC m c | 1 => vC m c | 2 => kC m c | 3 => vC m c

/-- A chunk of a gathered buffer, at contents. -/
def gPts (c : Dev nD) (k : Fin 4) (n : Fin 32) (q : PosShare TreeShare) (f : (G k).view.ty.Contents (Elt F)) : sProp 𝕄 :=
  (gCh k n).view.loc (c : Thread nD τ) ↦[(gCh k n).view.set]{q} f
/-- A chunk of an own block, at contents. -/
def bPts (c : Dev nD) (k : Fin 4) (n : Fin 4) (q : PosShare TreeShare) (f : (B k).view.ty.Contents (Elt F)) : sProp 𝕄 :=
  (bCh k n).view.loc (c : Thread nD τ) ↦[(bCh k n).view.set]{q} f

instance gPts_storable (c : Dev nD) (k n q f) : BI.Storable (upEmb : UEmb _ 𝕄) (gPts (F := F) c k n q f) := by unfold gPts; infer_instance
instance bPts_storable (c : Dev nD) (k n q f) : BI.Storable (upEmb : UEmb _ 𝕄) (bPts (F := F) c k n q f) := by unfold bPts; infer_instance

/-- The chunk that transfer `(t, s, k)` of device `c` rewrites on its neighbour, at any contents. -/
def Dst (c : Dev nD) (t : Fin 7) (s : Fin 2) (k : Fin 4) : sProp 𝕄 :=
  iprop(∃ f, gPts (F := F) (peer k c) k (chk k c t.1 s) fullShare f)

instance Dst_storable (c : Dev nD) (t s k) : BI.Storable (upEmb : UEmb _ 𝕄) (Dst (F := F) c t s k) := by unfold Dst; infer_instance

/-! ## The schedule -/

/-- What a signal hands device `c`: the chunks that it rewrites on its right neighbour (`true`) or on its
    left one (`false`). -/
def barPart (c : Dev nD) (d : Bool) (t : Fin 7) : sProp 𝕄 :=
  if d then iprop((Dst (F := F) c t 0 0 ∗ Dst c t 0 1) ∗ (Dst c t 1 0 ∗ Dst c t 1 1))
    else iprop((Dst (F := F) c t 0 2 ∗ Dst c t 0 3) ∗ (Dst c t 1 2 ∗ Dst c t 1 3))
def barPay (c : Dev nD) (d : Bool) : sProp 𝕄 := bigSep Finset.univ fun t : Fin 7 => barPart (F := F) c d t

instance barPart_storable (c : Dev nD) (d t) : BI.Storable (upEmb : UEmb _ 𝕄) (barPart (F := F) c d t) := by
  unfold barPart; split <;> infer_instance

/-- What a landing hands the receiver: the chunk, at the contents of the gathered block. -/
def recvPay (c : Dev nD) (t : Fin 7) (s : Fin 2) (k : Fin 4) : sProp 𝕄 := gPts c k (chk k c (t.1 + 1) s) fullShare (GC m k)
/-- What it hands back to the sender: half of the share of the source. -/
def sendPay (c : Dev nD) (t : Fin 7) (s : Fin 2) (k : Fin 4) : sProp 𝕄 :=
  if t = 0 then bPts c k (sub k s) fullShare.right (BC m c k) else gPts c k (chk k c t.1 s) fullShare.right (GC m k)

def dmaPay (c : Dev nD) (i : Fin 8 × Fin 7 × Fin 2) : sProp 𝕄 :=
  if isRecv i.1 then recvPay m c i.2.1 i.2.2 (kindOf i.1) else sendPay m c i.2.1 i.2.2 (kindOf i.1)

/-- The duties of a cell at round 0: both neighbours' at a barrier cell, the transfer's at a copy's cell. -/
def dut (g : GSem nD τ sig) : Finset Bool := match g.2 with
  | .reg s => if g.1.2 = .tc ∧ s = barS then Finset.univ else ∅
  | .dma q => if g.1.2 = .tc ∧ 4 ≤ q.1 then {false} else ∅

def pay (g : GSem nD τ sig) (d : Bool) : sProp 𝕄 := match g.2 with
  | .reg s => barPay g.1.1 d
  | .dma q => dmaPay m g.1.1 (dec q)

instance pay_storable (g : GSem nD τ sig) (d : Bool) : BI.Storable (upEmb : UEmb _ 𝕄) (pay (F := F) m g d) := by
  unfold pay barPay dmaPay recvPay sendPay
  repeat' split
  all_goals infer_instance

def rd : Rounds.Schedule (GSem nD τ sig) Bool 𝕄 where
  duties g r := if r = 0 then dut g else ∅
  unitless _ := False
  amount g _ _ := match g.2 with
    | .reg _ => 1
    | .dma _ => N
  payload g _ d := pay m g d
  amount_pos g _ _ _ := by
    rcases g with ⟨t, s | q⟩
    · exact Nat.one_pos
    · exact N_pos

instance rd_payload_storable (g : GSem nD τ sig) (r : ℕ) (d : Bool) :
    BI.Storable (upEmb : UEmb _ 𝕄) ((rd (F := F) m).payload g r d) := pay_storable m g d

section Sched
variable (c : Dev nD)

theorem duties_bar : (rd (F := F) m).duties (barCell c) 0 = Finset.univ := by
  show (if 0 = 0 then dut (barCell c) else ∅) = _
  rw [if_pos rfl]
  show (if (barCell c).1.2 = .tc ∧ barS = barS then (Finset.univ : Finset Bool) else ∅) = _
  rw [if_pos (And.intro rfl rfl)]
theorem duties_cs (a : Fin 8) (t : Fin 7) (s : Fin 2) : (rd (F := F) m).duties (dcell c (cs a t s)) 0 = {false} := by
  show (if 0 = 0 then dut (dcell c (cs a t s)) else ∅) = _
  rw [if_pos rfl]; exact if_pos (And.intro rfl (cs_ge a t s))
theorem duties_later (g : GSem nD τ sig) : ∀ r, 1 ≤ r → (rd (F := F) m).duties g r = ∅ :=
  fun r hr => if_neg (by omega)

theorem amount_bar (d : Bool) : (rd (F := F) m).amount (barCell c) 0 d = 1 := rfl
theorem amount_dma (q : DmaSem sig) (d : Bool) : (rd (F := F) m).amount (dcell c q) 0 d = N := rfl

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_cs (a : Fin 8) (t : Fin 7) (s : Fin 2) : (rd (F := F) m).expect (dcell c (cs a t s)) 0 = N := by
  unfold Schedule.expect Schedule.amountOf; rw [duties_cs, Finset.sum_singleton, amount_dma]

theorem payload_bar (d : Bool) : (rd (F := F) m).payload (barCell c) 0 d = barPay c d := rfl
theorem payload_recv (t : Fin 7) (s : Fin 2) (k : Fin 4) (d : Bool) :
    (rd (F := F) m).payload (dcell c (recvS k t s)) 0 d = recvPay m c t s k := by
  show dmaPay m c (dec (recvS k t s)) = _
  rw [dec_cs]; unfold dmaPay
  simp only [isRecv_recv, kindOf_recv, if_true]
theorem payload_send (t : Fin 7) (s : Fin 2) (k : Fin 4) (d : Bool) :
    (rd (F := F) m).payload (dcell c (sendS k t s)) 0 d = sendPay m c t s k := by
  show dmaPay m c (dec (sendS k t s)) = _
  rw [dec_cs]; unfold dmaPay
  simp only [isRecv_send, kindOf_send, Bool.false_eq_true, if_false]

theorem rest_bar : bigSep ((rd (F := F) m).duties (barCell c) 0 \ ∅) (fun d => (rd (F := F) m).payload (barCell c) 0 d)
    = iprop(barPay c true ∗ barPay c false) := by
  rw [Finset.sdiff_empty, duties_bar, bigSep_univ_eq_bigSepL [true, false] (by decide) (by decide), bigSepL_cons_cons, bigSepL_singleton]
  rfl
theorem rest_cs (a : Fin 8) (t : Fin 7) (s : Fin 2) :
    bigSep ((rd (F := F) m).duties (dcell c (cs a t s)) 0 \ ∅) (fun d => (rd (F := F) m).payload (dcell c (cs a t s)) 0 d)
      = (rd (F := F) m).payload (dcell c (cs a t s)) 0 false := by
  rw [Finset.sdiff_empty, duties_cs, bigSep_singleton]

end Sched

/-! ## What each device owes; the levels -/

/-- The credit that a transfer owes its receiver. -/
def tal (c : Dev nD) (x : X) : CellTallies nD τ sig Unit := tallyAt (dcell (peer x.2.2 c) (recvS x.2.2 x.1 x.2.1)) () N

/-- What the transfers of a list owe. -/
def owe (c : Dev nD) : List X → CellTallies nD τ sig Unit
  | [] => 0
  | x :: l => owe c l + tal c x

/-- The transfers of the last `n` hops, in program order. -/
def remS : ℕ → List X
  | 0 => []
  | n + 1 => (⟨(6 - n) % 7, Nat.mod_lt _ (by decide)⟩, 0, 0) :: (⟨(6 - n) % 7, Nat.mod_lt _ (by decide)⟩, 0, 1)
      :: (⟨(6 - n) % 7, Nat.mod_lt _ (by decide)⟩, 0, 2) :: (⟨(6 - n) % 7, Nat.mod_lt _ (by decide)⟩, 0, 3)
      :: (⟨(6 - n) % 7, Nat.mod_lt _ (by decide)⟩, 1, 0) :: (⟨(6 - n) % 7, Nat.mod_lt _ (by decide)⟩, 1, 1)
      :: (⟨(6 - n) % 7, Nat.mod_lt _ (by decide)⟩, 1, 2) :: (⟨(6 - n) % 7, Nat.mod_lt _ (by decide)⟩, 1, 3) :: remS n

theorem remS_hop : ∀ (n : Fin 8), ∀ x ∈ remS n.1, 7 ≤ x.1.1 + n.1 := by decide
theorem remS_nodup : (remS 7).Nodup := by decide
theorem remS_all : ∀ x : X, x ∈ remS 7 := by decide
theorem remS_zero : remS 0 = [] := rfl
/-- The transfers of one hop, in program order. -/
abbrev hopL (t : Fin 7) : List X := [(t, 0, 0), (t, 0, 1), (t, 0, 2), (t, 0, 3), (t, 1, 0), (t, 1, 1), (t, 1, 2), (t, 1, 3)]
theorem remS_hopL : ∀ (t : Fin 7), remS (7 - t.1) = hopL t ++ remS (6 - t.1) := by decide
attribute [irreducible] remS

def O₁ (c : Dev nD) : CellTallies nD τ sig Unit := owe c (remS 7)
def O₀ (c : Dev nD) : CellTallies nD τ sig Unit := O₁ c + tallyAt (barCell (rgt c)) () 1 + tallyAt (barCell (lft c)) () 1

def L (g : GSem nD τ sig) : Finset Unit := if g.1.2 = .tc then {()} else ∅
/-- Barrier cells at 1, a receiver's cell of hop `t` at `2 + t`, everything else at 0. -/
def lv (g : GSem nD τ sig) (_ : Unit) : ℕ := match g.2 with
  | .reg _ => 1
  | .dma q => if 4 ≤ q.1 ∧ isRecv (dec q).1 then 2 + (dec q).2.1.1 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 4) (t : Fin 7) (s : Fin 2) (u : Unit) : lv (dcell c (recvS k t s)) u = 2 + t.1 := by
  show (if 4 ≤ (recvS k t s).1 ∧ isRecv (dec (recvS k t s)).1 then 2 + (dec (recvS k t s)).2.1.1 else 0) = _
  rw [dec_cs, if_pos ⟨cs_ge _ _ _, isRecv_recv k⟩]

theorem owe_pos {c : Dev nD} {l : List X} {g : GSem nD τ sig} {u : Unit} (h : 0 < owe c l g u) :
    ∃ x ∈ l, g = dcell (peer x.2.2 c) (recvS x.2.2 x.1 x.2.1) := by
  induction l with
  | nil => exact absurd h (Nat.lt_irrefl 0)
  | cons x l ih =>
    unfold owe tal at h
    rw [Pi.add_apply, Finsupp.add_apply, tallyAt_apply] at h
    by_cases hg : g = dcell (peer x.2.2 c) (recvS x.2.2 x.1 x.2.1) ∧ u = ()
    · exact ⟨x, List.mem_cons_self, hg.1⟩
    · rw [if_neg hg, Nat.add_zero] at h
      obtain ⟨y, hy, he⟩ := ih h
      exact ⟨y, List.mem_cons_of_mem _ hy, he⟩

theorem O₀_pos {c : Dev nD} {g : GSem nD τ sig} {u : Unit} (h : 0 < O₀ c g u) :
    (∃ x ∈ remS 7, g = dcell (peer x.2.2 c) (recvS x.2.2 x.1 x.2.1)) ∨ g = barCell (rgt c) ∨ g = barCell (lft c) := by
  unfold O₀ O₁ at h
  rw [Pi.add_apply, Finsupp.add_apply, Pi.add_apply, Finsupp.add_apply, tallyAt_apply, tallyAt_apply] at h
  by_cases h1 : g = barCell (rgt c) ∧ u = ()
  · exact Or.inr (Or.inl h1.1)
  by_cases h2 : g = barCell (lft c) ∧ u = ()
  · exact Or.inr (Or.inr h2.1)
  rw [if_neg h1, if_neg h2] at h
  exact Or.inl (owe_pos (u := u) (by omega))

/-- A wait at a level below every transfer still owed. -/
theorem mayWait_owe (c : Dev nD) (sm : SemLoc sig) (l : List X) (n : ℕ) (hn : lv ((c : Thread nD τ), sm) () ≤ n)
    (hl : ∀ x ∈ l, n < 2 + x.1.1) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hx, rfl⟩ := owe_pos hg; rw [lv_recv]; exact hl x hx)

theorem mayWait_stage (c : Dev nD) (q : DmaSem sig) (hq : q.1 < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | rfl | rfl <;> exact Finset.mem_singleton_self _)
      (fun p hp => by
        rw [Finset.mem_singleton.mp hp]
        show (if 4 ≤ q.1 ∧ isRecv (dec q).1 then 2 + (dec q).2.1.1 else 0) ≤ 0
        rw [if_neg fun h => by omega])
      (fun g u hg => by
        rcases O₀_pos hg with ⟨x, -, rfl⟩ | rfl | rfl
        · rw [lv_recv]; omega
        · exact Nat.one_pos
        · exact Nat.one_pos)
  · rw [MayWait_zero]; iintro -; iempintro

end Cert.Proof.Ker
-- ==== Proof.Steps.lean ====
/- What one wait, one send and one handshake do to the state of the protocol. -/
module

public import proofs.«01_k».proof.Proof.Common
public import Idealize.ShloMosaic.Lib.Pipeline.ValueKit

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- The weakest precondition of a program of device `c`. -/
abbrev Wp {α : Type} (c : Dev nD) (p : Pr F α) (Q : α → sProp 𝕄) : sProp 𝕄 :=
  wp frame (wpE (defs₀ (F := F)) 𝒱₀ (c : Thread nD τ) none) Set.univ p Q

/-- A piece at the head of a program. -/
theorem wp_step {α β : Type} {c : Dev nD} {p : Pr F α} {k : α → Pr F β} {P : sProp 𝕄} {R : α → sProp 𝕄} {Q : β → sProp 𝕄}
    (h : P ⊢ Wp c p R) : P ⊢ iprop((∀ a, R a -∗ Wp c (k a) Q) -∗ Wp c (p >>= k) Q) := by
  unfold Wp
  rw [wp_bind]
  iintro HP HK
  iapply (wp_wand_r frame (wpE (defs₀ (F := F)) 𝒱₀ (c : Thread nD τ) none) Set.univ (Q := R))
  isplitl [HP]
  · iapply h; iexact HP
  · iintro %a HR
    iapply HK; iexact HR

/-! ## What is known for good -/

/-- The invariants of all the cells, that each is at round 0, the levels. -/
def ctx : sProp 𝕄 :=
  iprop((bigSep Finset.univ fun ci : Dev nD × CI => cellInv ER (rd m) (K ci) (kcell ci))
    ∗ (bigSep Finset.univ fun ci : Dev nD × CI => reached ER (kcell ci) 0) ∗ levAts L lv)

instance ctx_persistent : BI.Persistent (ctx (F := F) m K) := by unfold ctx; infer_instance

theorem inv_elim (ci : Dev nD × CI) :
    (bigSep Finset.univ fun ci : Dev nD × CI => (cellInv ER (rd m) (K ci) (kcell ci) : sProp 𝕄)) ⊢ cellInv ER (rd m) (K ci) (kcell ci) :=
  bigSep_elim (Finset.mem_univ ci)
theorem reached_elim (ci : Dev nD × CI) :
    (bigSep Finset.univ fun ci : Dev nD × CI => (reached ER (kcell ci) 0 : sProp 𝕄)) ⊢ reached ER (kcell ci) 0 :=
  bigSep_elim (Finset.mem_univ ci)
theorem ctx_inv (ci : Dev nD × CI) : ctx m K ⊢ cellInv ER (rd m) (K ci) (kcell ci) := by
  unfold ctx
  iintro ⟨H, -, -⟩
  iapply (inv_elim m K ci); iexact H
theorem ctx_reached (ci : Dev nD × CI) : ctx m K ⊢ reached ER (kcell ci) 0 := by
  unfold ctx
  iintro ⟨-, H, -⟩
  iapply (reached_elim ci); iexact H
theorem ctx_lev : ctx m K ⊢ levAts L lv := by
  unfold ctx
  iintro ⟨-, -, H⟩; iexact H

abbrev ciS (t : Fin 7) (s : Fin 2) (k : Fin 4) : CI := .inr (false, t, s, k)
abbrev ciR (t : Fin 7) (s : Fin 2) (k : Fin 4) : CI := .inr (true, t, s, k)

/-! ## The states of a transfer -/

/-- What device `c` owes, whatever it has waited on. -/
def ow (c : Dev nD) (O : CellTallies nD τ sig Unit) : sProp 𝕄 := iprop(∃ W, owes (c : Thread nD τ) O W)

variable (c : Dev nD) (t : Fin 7) (s : Fin 2) (k : Fin 4)

/-- The right to send, at the cells' side. -/
def STok : sProp 𝕄 := iprop(atPos ER (dcell c (sendS k t s)) 0 ∅ 0 ∗ dutyTok ER (dcell c (sendS k t s)) 0 false
  ∗ dutyTok ER (dcell (peer k c) (recvS k t s)) 0 false)
/-- Ready to be sent. -/
def Snd : sProp 𝕄 := iprop(STok (F := F) c t s k ∗ Dst c t s k)
/-- In flight. -/
def Fly : sProp 𝕄 := iprop(cred (tallyAt (dcell c (sendS k t s)) () N) ∗ atPos ER (dcell c (sendS k t s)) 0 ∅ 0)
/-- Sent: the cell is closed, half of the share of the source is back. -/
def SDone : sProp 𝕄 := iprop(semVal (dcell c (sendS k t s)) 0 ∗ sendPay m c t s k)
/-- To be received. -/
def Rcv : sProp 𝕄 := iprop(cred (tallyAt (dcell c (recvS k t s)) () N) ∗ atPos ER (dcell c (recvS k t s)) 0 ∅ 0)
/-- Received: the cell is closed, half of the share stays for the heads. -/
def Got : sProp 𝕄 := iprop(semVal (dcell c (recvS k t s)) 0 ∗ gPts c k (chk k c (t.1 + 1) s) fullShare.left (GC m k))
/-- The other half. -/
def Rt : sProp 𝕄 := gPts c k (chk k c (t.1 + 1) s) fullShare.right (GC m k)

theorem gPts_halves (n : Fin 32) (f : (G k).view.ty.Contents (Elt F)) :
    gPts c k n fullShare f ⊣⊢ iprop(gPts c k n fullShare.left f ∗ gPts c k n fullShare.right f) := by
  unfold gPts; exact pointsTo_share (PosShare.mem_left_op_right _)

theorem Rt_sendPay (t : Fin 6) : Rt m c t.castSucc s k ⊢ sendPay m c t.succ s k := by
  unfold Rt sendPay
  rw [if_neg (Fin.succ_ne_zero t)]
  exact BI.Entails.refl _

/-- A wait on a receive cell. -/
theorem wp_recv (l : List X) (hl : ∀ x ∈ l, t.1 < x.1.1) :
    iprop(ctx m K ∗ Rcv c t s k ∗ ow c (owe c l)) ⊢ Wp c (gWait (F := F) k (recvS k t s)) fun _ => iprop((Got m c t s k ∗ Rt m c t s k) ∗ ow c (owe c l)) := by
  unfold Rcv ow gWait Prog.lift
  iintro ⟨#Hctx, ⟨Hc, Hat⟩, ⟨%W, HO⟩⟩
  iapply (Rounds.wp_wait_rest_token 𝒱₀ ER (rd m) (c : Thread nD τ) none (κ := K (c, ciR t s k))
      (wpE_waitDma_eq 𝒱₀ (c : Thread nD τ) none Set.univ) (Set.mem_univ _) () (O := owe c l) (W := W) (R := 0) (m := 0) (T := ∅) (k' := (G k).view.ref.dmaCredit S2x64x512 .fp8e4m3)
      (by rw [Nat.zero_add, expect_cs])) $$ [Hc HO Hat]
  · isplitr; · iapply (ctx_inv m K (c, ciR t s k)); iexact Hctx
    isplitl [Hc]; · rw [gWait_credit]; iexact Hc
    isplitl [HO]; · iexact HO
    isplitr
    · iapply (mayWait_owe c (.dma (recvS k t s)) l (2 + t.1) (le_of_eq (lv_recv c k t s ())) (fun x hx => by have := hl x hx; omega))
      iapply (ctx_lev m K); iexact Hctx
    iexact Hat
  iintro ⟨HO, Hat, -, Hpay⟩
  ihave Hp := (Entails.of_eq ((rest_cs m c _ t s).trans (payload_recv m c t s k false))) $$ Hpay
  imod (Rounds.cell_close ER (rd m) (Set.mem_univ (K (c, ciR t s k))) (fun h => h) (R := 0 + 1) (duties_later m (dcell c (recvS k t s)))) $$ [Hat] with Hz
  · isplitr; · iapply (ctx_inv m K (c, ciR t s k)); iexact Hctx
    iexact Hat
  unfold recvPay
  ihave Hp2 := (gPts_halves c k _ _).1 $$ Hp
  icases Hp2 with ⟨Hl, Hr⟩
  rw [wp_ret]; imodintro
  isplitl [Hz Hl Hr]
  · isplitl [Hz Hl]
    · unfold Got; isplitl [Hz] <;> iassumption
    · unfold Rt; iexact Hr
  · iexists _; iexact HO

/-- A wait on a send cell, whichever buffer sizes it. -/
theorem wp_drainOf (b : Ref sig .tc) (h : (c : Thread nD τ).2 = .tc ∨ b.HasMemref S2x64x512 .fp8e4m3)
    (hb : b.dmaCredit S2x64x512 .fp8e4m3 = N) :
    iprop(ctx m K ∗ Fly c t s k ∗ ow c 0)
      ⊢ Wp c (Prog.lift (.waitDma (sendS k t s) b S2x64x512 .fp8e4m3 h)) fun _ => iprop(SDone m c t s k ∗ ow c 0) := by
  unfold Fly ow Prog.lift
  iintro ⟨#Hctx, ⟨Hc, Hat⟩, ⟨%W, HO⟩⟩
  iapply (Rounds.wp_wait_rest_token 𝒱₀ ER (rd m) (c : Thread nD τ) none (κ := K (c, ciS t s k))
      (wpE_waitDma_eq 𝒱₀ (c : Thread nD τ) none Set.univ) (Set.mem_univ _) () (O := 0) (W := W) (R := 0) (m := 0) (T := ∅) (k' := b.dmaCredit S2x64x512 .fp8e4m3)
      (by rw [Nat.zero_add, expect_cs])) $$ [Hc HO Hat]
  · isplitr; · iapply (ctx_inv m K (c, ciS t s k)); iexact Hctx
    isplitl [Hc]; · rw [hb]; iexact Hc
    isplitl [HO]; · iexact HO
    isplitr; · rw [MayWait_zero]; iempintro
    iexact Hat
  iintro ⟨HO, Hat, -, Hpay⟩
  ihave Hp := (Entails.of_eq ((rest_cs m c _ t s).trans (payload_send m c t s k false))) $$ Hpay
  imod (Rounds.cell_close ER (rd m) (Set.mem_univ (K (c, ciS t s k))) (fun h => h) (R := 0 + 1) (duties_later m (dcell c (sendS k t s)))) $$ [Hat] with Hz
  · isplitr; · iapply (ctx_inv m K (c, ciS t s k)); iexact Hctx
    iexact Hat
  rw [wp_ret]; imodintro
  isplitl [Hz Hp]
  · unfold SDone; isplitl [Hz] <;> iassumption
  · iexists _; iexact HO

theorem wp_drain : iprop(ctx m K ∗ Fly c t s k ∗ ow c 0) ⊢ Wp c (gWait (F := F) k (sendS k t s)) fun _ => iprop(SDone m c t s k ∗ ow c 0) :=
  wp_drainOf m K c t s k _ _ (gWait_credit k)
theorem wp_drainB : iprop(ctx m K ∗ Fly c t s k ∗ ow c 0) ⊢ Wp c (bWait (F := F) k (sendS k t s)) fun _ => iprop(SDone m c t s k ∗ ow c 0) :=
  wp_drainOf m K c t s k _ _ (bWait_credit k)

/-! ## Sends -/

/-- A chunk rewritten from a source that reads as the gathered block's chunk holds the gathered block. -/
theorem gPts_landed (c' : Dev nD) (n : Fin 32) (fd : (G k).view.ty.Contents (Elt F)) (v : S2x64x512.Idx → Elt F .fp8e4m3)
    (hv : v = (gCh k n).view.read (Elt F) (GC m k)) :
    ((gCh k n).view.loc (c' : Thread nD τ) ↦[(gCh k n).view.set]{fullShare} ((gCh k n).view.write (Elt F) fd v Finset.univ) : sProp 𝕄)
      ⊢ gPts c' k n fullShare (GC m k) := by
  unfold gPts
  refine Entails.of_eq (pointsTo_congr fun i hi => ?_)
  rw [hv, View.write_read_eq_piecewise]
  exact Finset.piecewise_eq_of_mem _ _ _ hi

theorem wp_fwd (t : Fin 6) (l : List X) :
    iprop(ctx m K ∗ Rt m c t.castSucc s k ∗ Snd c t.succ s k ∗ ow c (owe c ((t.succ, s, k) :: l)))
      ⊢ Wp c (fwd (F := F) c k t.succ s) fun _ => iprop(Fly c t.succ s k ∗ ow c (owe c l)) := by
  unfold Snd STok Dst ow fwd fwdR Prog.lift Rt
  iintro ⟨#Hctx, Hsrc, ⟨⟨Hat, HtS, HtR⟩, ⟨%fd, Hdst⟩⟩, ⟨%W, HO⟩⟩
  iapply (Rounds.wp_send_pointsTo 𝒱₀ ER (rd m) (c : Thread nD τ) none (κ₁ := K (c, ciS t.succ s k)) (κ₂ := K (peer k c, ciR t.succ s k))
    (c' := (peer k c : Thread nD τ)) (src := gCh k (chk k c t.succ.1 s)) (dst := gCh k (chk k c t.succ.1 s))
    (sS := .dma (sendS k t.succ s)) (sem := .dma (recvS k t.succ s))
    (r₁ := 0) (r₂ := 0) (d₁ := false) (d₂ := false) (fs := GC m k) (fd := fd) (q := fullShare.right) (W := W)
    (by rw [duties_cs]; exact Finset.mem_singleton_self _) (by rw [duties_cs]; exact Finset.mem_singleton_self _)
    () () N (gCh_credit k _) (amount_dma m c _ false) (amount_dma m (peer k c) _ false) (owe c l) rfl
    (by rw [payload_send]; exact Rt_sendPay m c s k t)
    (by rw [payload_recv]; unfold recvPay; rw [chk_peer]; exact gPts_landed m k (peer k c) _ fd _ rfl)) $$ [Hsrc Hdst HO HtS HtR]
  · isplitr; · iapply (ctx_inv m K (c, ciS t.succ s k)); iexact Hctx
    isplitr; · iapply (ctx_inv m K (peer k c, ciR t.succ s k)); iexact Hctx
    isplitl [Hsrc]; · unfold gPts; iexact Hsrc
    isplitl [Hdst]; · unfold gPts; iexact Hdst
    isplitl [HO]; · iexact HO
    isplitl [HtS]; · iexact HtS
    isplitr; · iapply (ctx_reached m K (c, ciS t.succ s k)); iexact Hctx
    isplitl [HtR]; · iexact HtR
    iapply (ctx_reached m K (peer k c, ciR t.succ s k)); iexact Hctx
  iintro ⟨Hc, HO⟩
  rw [wp_ret]; imodintro
  isplitl [Hc Hat]
  · unfold Fly; isplitl [Hc] <;> iassumption
  · iexists _; iexact HO

theorem chk_own : ∀ (k : Fin 4) (c : Dev nD) (s : Fin 2), (chk k c 0 s).1 = 4 * c.1 + (sub k s).1 := by decide

/-- An own chunk reads as the gathered block's chunk of the device. -/
theorem own_read : (bCh k (sub k s)).view.read (Elt F) (BC m c k) = (gCh k (chk k c 0 s)).view.read (Elt F) (GC m k) := by
  have hg : ∀ (f : Dev nD → S2x256x512.Idx → Elt F .fp8e4m3) (i : S2x64x512.Idx),
      f c ((Rect.unit (s := S2x256x512) ![0, 64 * (sub k s).1, 0] S2x64x512.size (bInb (sub k s))).emb i)
        = gath f ((Rect.unit (s := S2x2048x512) ![0, 64 * (chk k c 0 s).1, 0] S2x64x512.size (gInb (chk k c 0 s))).emb i) := by
    intro f i
    have h1 : (i 1).1 < 64 := (i 1).2
    have h4 := (sub k s).2
    have hc := chk_own k c s
    have e0 := Idealize.ShloMosaic.ValueKit.rect_emb_unit_val (s := S2x2048x512) ![0, 64 * (chk k c 0 s).1, 0] S2x64x512.size (gInb (chk k c 0 s)) i
    have b0 := Idealize.ShloMosaic.ValueKit.rect_emb_unit_val (s := S2x256x512) ![0, 64 * (sub k s).1, 0] S2x64x512.size (bInb (sub k s)) i
    unfold gath
    have hd : (((Rect.unit (s := S2x2048x512) ![0, 64 * (chk k c 0 s).1, 0] S2x64x512.size (gInb (chk k c 0 s))).emb i) 1).1
        = 64 * (chk k c 0 s).1 + (i 1).1 := e0 1
    have hc8 := c.2
    congr 1
    · refine Fin.ext ?_
      show c.1 = _ / 256
      rw [hd]; omega
    · funext a
      fin_cases a
      · exact Fin.ext ((b0 0).trans (e0 0).symm)
      · refine Fin.ext ((b0 1).trans ?_)
        show 64 * (sub k s).1 + (i 1).1 = _ % 256
        rw [hd]; omega
      · exact Fin.ext ((b0 2).trans (e0 2).symm)
  funext i
  rw [View.read_apply, View.read_apply]
  fin_cases k <;> first | exact congrArg _ (hg (kC m) i) | exact congrArg _ (hg (vC m) i)

theorem bPts_sendPay : bPts c k (sub k s) fullShare.right (BC m c k) ⊢ sendPay m c 0 s k := by
  unfold sendPay; rw [if_pos rfl]

theorem wp_own (l : List X) :
    iprop(ctx m K ∗ bPts c k (sub k s) fullShare.right (BC m c k) ∗ Snd c 0 s k ∗ ow c (owe c ((0, s, k) :: l)))
      ⊢ Wp c (sendOwn (F := F) c k s) fun _ => iprop(Fly c 0 s k ∗ ow c (owe c l)) := by
  unfold Snd STok Dst ow sendOwn ownR Prog.lift
  iintro ⟨#Hctx, Hsrc, ⟨⟨Hat, HtS, HtR⟩, ⟨%fd, Hdst⟩⟩, ⟨%W, HO⟩⟩
  iapply (Rounds.wp_send_pointsTo 𝒱₀ ER (rd m) (c : Thread nD τ) none (κ₁ := K (c, ciS 0 s k)) (κ₂ := K (peer k c, ciR 0 s k))
    (c' := (peer k c : Thread nD τ)) (src := bCh k (sub k s)) (dst := gCh k (chk k c 0 s))
    (sS := .dma (sendS k 0 s)) (sem := .dma (recvS k 0 s))
    (r₁ := 0) (r₂ := 0) (d₁ := false) (d₂ := false) (fs := BC m c k) (fd := fd) (q := fullShare.right) (W := W)
    (by rw [duties_cs]; exact Finset.mem_singleton_self _) (by rw [duties_cs]; exact Finset.mem_singleton_self _)
    () () N (gCh_credit k _) (amount_dma m c _ false) (amount_dma m (peer k c) _ false) (owe c l) rfl
    (by rw [payload_send]; exact bPts_sendPay m c s k)
    (by rw [payload_recv]; unfold recvPay; rw [chk_peer]; exact gPts_landed m k (peer k c) _ fd _ (own_read m c s k))) $$ [Hsrc Hdst HO HtS HtR]
  · isplitr; · iapply (ctx_inv m K (c, ciS 0 s k)); iexact Hctx
    isplitr; · iapply (ctx_inv m K (peer k c, ciR 0 s k)); iexact Hctx
    isplitl [Hsrc]; · unfold bPts; iexact Hsrc
    isplitl [Hdst]; · unfold gPts; iexact Hdst
    isplitl [HO]; · iexact HO
    isplitl [HtS]; · iexact HtS
    isplitr; · iapply (ctx_reached m K (c, ciS 0 s k)); iexact Hctx
    isplitl [HtR]; · iexact HtR
    iapply (ctx_reached m K (peer k c, ciR 0 s k)); iexact Hctx
  iintro ⟨Hc, HO⟩
  rw [wp_ret]; imodintro
  isplitl [Hc Hat]
  · unfold Fly; isplitl [Hc] <;> iassumption
  · iexists _; iexact HO

/-! ## The handshake -/

/-- What a device needs for the handshake: its tokens, its credit, what it hands each neighbour. -/
def Hi : sProp 𝕄 := iprop(dutyTok ER (barCell (lft c)) 0 true ∗ dutyTok ER (barCell (rgt c)) 0 false
  ∗ barPay (F := F) (lft c) true ∗ barPay (F := F) (rgt c) false ∗ cred (tallyAt (barCell c) () 2) ∗ atPos ER (barCell c) 0 ∅ 0)

theorem wp_hello :
    iprop(ctx m K ∗ Hi c ∗ ow c (O₀ c))
      ⊢ Wp c (hello (F := F) c) fun _ => iprop((barPay (F := F) c true ∗ barPay (F := F) c false ∗ semVal (barCell c) 0) ∗ ow c (owe c (remS 7))) := by
  unfold Hi ow hello
  simp only [semSignalWord, semWaitWord, Prog.bind_op, Prog.bind_ret]
  iintro ⟨#Hctx, ⟨Ht1, Ht2, Hp1, Hp2, Hc, Hat⟩, ⟨%W, HO⟩⟩
  unfold O₀
  iapply (Rounds.wp_signal 𝒱₀ ER (rd m) (c : Thread nD τ) none (dst := (lft c : Thread nD τ)) (κ := K (lft c, .inl ()))
      (d := true) (by rw [duties_bar]; exact Finset.mem_univ _) ((amount_bar m (lft c) true).trans (by decide)) () (O₁ c + tallyAt (barCell (rgt c)) () 1) rfl)
    $$ [HO Ht1 Hp1]
  · isplitr; · iapply (ctx_inv m K (lft c, .inl ())); iexact Hctx
    isplitl [HO]; · iexact HO
    isplitl [Ht1]; · iexact Ht1
    isplitl [Hp1]; · rw [payload_bar]; iexact Hp1
    iapply (ctx_reached m K (lft c, .inl ())); iexact Hctx
  iintro HO
  iapply (Rounds.wp_signal 𝒱₀ ER (rd m) (c : Thread nD τ) none (dst := (rgt c : Thread nD τ)) (κ := K (rgt c, .inl ()))
      (d := false) (by rw [duties_bar]; exact Finset.mem_univ _) ((amount_bar m (rgt c) false).trans (by decide)) () (O₁ c) rfl)
    $$ [HO Ht2 Hp2]
  · isplitr; · iapply (ctx_inv m K (rgt c, .inl ())); iexact Hctx
    isplitl [HO]; · iexact HO
    isplitl [Ht2]; · iexact Ht2
    isplitl [Hp2]; · rw [payload_bar]; iexact Hp2
    iapply (ctx_reached m K (rgt c, .inl ())); iexact Hctx
  iintro HO
  iapply (Rounds.wp_wait_rest_token 𝒱₀ ER (rd m) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (ctx_inv m K (c, .inl ())); iexact Hctx
    isplitl [Hc]; · iexact Hc
    isplitl [HO]; · iexact HO
    isplitr
    · iapply (mayWait_owe c (.reg barS) (remS 7) 1 (le_refl 1) (fun x hx => by omega))
      iapply (ctx_lev m K); iexact Hctx
    iexact Hat
  iintro ⟨HO, Hat, -, Hpay⟩
  ihave Hp := (Entails.of_eq (rest_bar m c)) $$ Hpay
  icases Hp with ⟨Hq1, Hq2⟩
  imod (Rounds.cell_close ER (rd m) (Set.mem_univ (K (c, .inl ()))) (fun h => h) (R := 0 + 1) (duties_later m (barCell c))) $$ [Hat] with Hz
  · isplitr; · iapply (ctx_inv m K (c, .inl ())); iexact Hctx
    iexact Hat
  rw [wp_ret]; imodintro
  isplitl [Hq1 Hq2 Hz]
  · isplitl [Hq1]; · iexact Hq1
    isplitl [Hq2] <;> iassumption
  · iexists _; unfold O₁; iexact HO

end Cert.Proof.Ker
-- ==== Proof.Heads.lean ====
/- What the groups of waits and sends do, and what one head does to the sums. -/
module

public import proofs.«01_k».proof.Proof.Steps

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A piece at the end of a program. -/
theorem wp_last {α : Type} {c : Dev nD} {p : Pr F α} {P : sProp 𝕄} {R Q : α → sProp 𝕄}
    (h : P ⊢ Wp c p R) : P ⊢ iprop((∀ a, R a -∗ Q a) -∗ Wp c p Q) := by
  iintro HP HK
  iapply (wp_wand_r frame (wpE (defs₀ (F := F)) 𝒱₀ (c : Thread nD τ) none) Set.univ (Q := R))
  isplitl [HP]
  · iapply h; iexact HP
  · iintro %a HR
    iapply HK; iexact HR

/-! ## Groups of four -/

/-- A statement at the four kinds. -/
def four (Ψ : Fin 4 → sProp 𝕄) : sProp 𝕄 := iprop(Ψ 0 ∗ Ψ 1 ∗ Ψ 2 ∗ Ψ 3)
/-- A statement at both sub-chunks of a hop. -/
def hop (Φ : Fin 7 → Fin 2 → Fin 4 → sProp 𝕄) (t : Fin 7) : sProp 𝕄 := iprop(four (Φ t 0) ∗ four (Φ t 1))

abbrev listL (t : Fin 7) (s : Fin 2) (l : List X) : List X := (t, s, 0) :: (t, s, 1) :: (t, s, 2) :: (t, s, 3) :: l

variable (c : Dev nD)

theorem wp_recv4 (t : Fin 7) (s : Fin 2) (l : List X) (hl : ∀ x ∈ l, t.1 < x.1.1) :
    iprop(ctx m K ∗ four (Rcv (F := F) c t s) ∗ ow c (owe c l))
      ⊢ Wp c (recv4 (F := F) t s) fun _ => iprop(four (Got m c t s) ∗ four (Rt m c t s) ∗ ow c (owe c l)) := by
  unfold recv4 four
  iintro ⟨#Hctx, ⟨H0, H1, H2, H3⟩, HO⟩
  iapply (wp_step (wp_recv m K c t s 0 l hl)) $$ [H0 HO]
  · isplitr; · iexact Hctx
    isplitl [H0] <;> iassumption
  iintro %_ ⟨⟨G0, R0⟩, HO⟩
  iapply (wp_step (wp_recv m K c t s 1 l hl)) $$ [H1 HO]
  · isplitr; · iexact Hctx
    isplitl [H1] <;> iassumption
  iintro %_ ⟨⟨G1, R1⟩, HO⟩
  iapply (wp_step (wp_recv m K c t s 2 l hl)) $$ [H2 HO]
  · isplitr; · iexact Hctx
    isplitl [H2] <;> iassumption
  iintro %_ ⟨⟨G2, R2⟩, HO⟩
  iapply (wp_last (wp_recv m K c t s 3 l hl)) $$ [H3 HO]
  · isplitr; · iexact Hctx
    isplitl [H3] <;> iassumption
  iintro %_ ⟨⟨G3, R3⟩, HO⟩
  isplitl [G0 G1 G2 G3]
  · isplitl [G0]; · iexact G0
    isplitl [G1]; · iexact G1
    isplitl [G2] <;> iassumption
  isplitl [R0 R1 R2 R3]
  · isplitl [R0]; · iexact R0
    isplitl [R1]; · iexact R1
    isplitl [R2] <;> iassumption
  iexact HO

/-- Four sends in a row, each from its own source. -/
theorem wp_send4 (t : Fin 7) (s : Fin 2) (l : List X) (p : Fin 4 → Pr F PUnit) (Src : Fin 4 → sProp 𝕄)
    (h : ∀ k l, iprop(ctx m K ∗ Src k ∗ Snd c t s k ∗ ow c (owe c ((t, s, k) :: l))) ⊢ Wp c (p k) fun _ => iprop(Fly c t s k ∗ ow c (owe c l))) :
    iprop(ctx m K ∗ four Src ∗ four (Snd (F := F) c t s) ∗ ow c (owe c (listL t s l)))
      ⊢ Wp c (p 0 >>= fun _ => p 1 >>= fun _ => p 2 >>= fun _ => p 3) fun _ => iprop(four (Fly (F := F) c t s) ∗ ow c (owe c l)) := by
  unfold four
  iintro ⟨#Hctx, ⟨H0, H1, H2, H3⟩, ⟨S0, S1, S2, S3⟩, HO⟩
  iapply (wp_step (h 0 _)) $$ [H0 S0 HO]
  · isplitr; · iexact Hctx
    isplitl [H0]; · iexact H0
    isplitl [S0] <;> iassumption
  iintro %_ ⟨F0, HO⟩
  iapply (wp_step (h 1 _)) $$ [H1 S1 HO]
  · isplitr; · iexact Hctx
    isplitl [H1]; · iexact H1
    isplitl [S1] <;> iassumption
  iintro %_ ⟨F1, HO⟩
  iapply (wp_step (h 2 _)) $$ [H2 S2 HO]
  · isplitr; · iexact Hctx
    isplitl [H2]; · iexact H2
    isplitl [S2] <;> iassumption
  iintro %_ ⟨F2, HO⟩
  iapply (wp_last (h 3 _)) $$ [H3 S3 HO]
  · isplitr; · iexact Hctx
    isplitl [H3]; · iexact H3
    isplitl [S3] <;> iassumption
  iintro %_ ⟨F3, HO⟩
  isplitl [F0 F1 F2 F3]
  · isplitl [F0]; · iexact F0
    isplitl [F1]; · iexact F1
    isplitl [F2] <;> iassumption
  iexact HO

theorem wp_fwd4 (t : Fin 6) (s : Fin 2) (l : List X) :
    iprop(ctx m K ∗ four (Rt m c t.castSucc s) ∗ four (Snd (F := F) c t.succ s) ∗ ow c (owe c (listL t.succ s l)))
      ⊢ Wp c (fwd4 (F := F) c t.succ s) fun _ => iprop(four (Fly (F := F) c t.succ s) ∗ ow c (owe c l)) :=
  wp_send4 m K c t.succ s l (fun k => fwd c k t.succ s) _ (fun k l => wp_fwd m K c s k t l)

/-- The right half of the own chunks of kind `k` and sub-chunk `s`. -/
abbrev OwnR (s : Fin 2) (k : Fin 4) : sProp 𝕄 := bPts c k (sub k s) fullShare.right (BC m c k)

theorem wp_own4 (s : Fin 2) (l : List X) :
    iprop(ctx m K ∗ four (OwnR m c s) ∗ four (Snd (F := F) c 0 s) ∗ ow c (owe c (listL 0 s l)))
      ⊢ Wp c (own4 (F := F) c s) fun _ => iprop(four (Fly (F := F) c 0 s) ∗ ow c (owe c l)) :=
  wp_send4 m K c 0 s l (fun k => sendOwn c k s) _ (fun k l => wp_own m K c s k l)

/-- Four waits on send cells in a row. -/
theorem wp_wait4 (t : Fin 7) (s : Fin 2) (p : Fin 4 → Pr F PUnit)
    (h : ∀ k, iprop(ctx m K ∗ Fly c t s k ∗ ow c 0) ⊢ Wp c (p k) fun _ => iprop(SDone m c t s k ∗ ow c 0)) :
    iprop(ctx m K ∗ four (Fly (F := F) c t s) ∗ ow c 0)
      ⊢ Wp c (p 0 >>= fun _ => p 1 >>= fun _ => p 2 >>= fun _ => p 3) fun _ => iprop(four (SDone m c t s) ∗ ow c 0) := by
  unfold four
  iintro ⟨#Hctx, ⟨H0, H1, H2, H3⟩, HO⟩
  iapply (wp_step (h 0)) $$ [H0 HO]
  · isplitr; · iexact Hctx
    isplitl [H0] <;> iassumption
  iintro %_ ⟨F0, HO⟩
  iapply (wp_step (h 1)) $$ [H1 HO]
  · isplitr; · iexact Hctx
    isplitl [H1] <;> iassumption
  iintro %_ ⟨F1, HO⟩
  iapply (wp_step (h 2)) $$ [H2 HO]
  · isplitr; · iexact Hctx
    isplitl [H2] <;> iassumption
  iintro %_ ⟨F2, HO⟩
  iapply (wp_last (h 3)) $$ [H3 HO]
  · isplitr; · iexact Hctx
    isplitl [H3] <;> iassumption
  iintro %_ ⟨F3, HO⟩
  isplitl [F0 F1 F2 F3]
  · isplitl [F0]; · iexact F0
    isplitl [F1]; · iexact F1
    isplitl [F2] <;> iassumption
  iexact HO

theorem wp_drain4 (t : Fin 7) (s : Fin 2) :
    iprop(ctx m K ∗ four (Fly (F := F) c t s) ∗ ow c 0) ⊢ Wp c (drain4 (F := F) t s) fun _ => iprop(four (SDone m c t s) ∗ ow c 0) :=
  wp_wait4 m K c t s (fun k => gWait k (sendS k t s)) fun k => wp_drain m K c t s k
theorem wp_drainOwn4 (s : Fin 2) :
    iprop(ctx m K ∗ four (Fly (F := F) c 0 s) ∗ ow c 0) ⊢ Wp c (drainOwn4 (F := F) s) fun _ => iprop(four (SDone m c 0 s) ∗ ow c 0) :=
  wp_wait4 m K c 0 s (fun k => bWait k (sendS k 0 s)) fun k => wp_drainB m K c 0 s k

/-! ## The rows of the gathered buffers -/

/-- The row of an element of a gathered buffer. -/
def rowOf : (k : Fin 4) → (G k).view.ty.Idx → ℕ
  | 0, i => ((show S2x2048x512.Idx from i) 1).1
  | 1, i => ((show S2x2048x512.Idx from i) 1).1
  | 2, i => ((show S2x2048x512.Idx from i) 1).1
  | 3, i => ((show S2x2048x512.Idx from i) 1).1

theorem mem_chunk (n : Fin 32) (i : S2x2048x512.Idx) :
    i ∈ (Rect.unit (s := S2x2048x512) ![0, 64 * n.1, 0] S2x64x512.size (gInb n)).set ↔ (i 1).1 / 64 = n.1 := by
  rw [Rect.mem_set_unit]
  constructor
  · intro h
    have h1 : 64 * n.1 ≤ (i 1).1 ∧ (i 1).1 < 64 * n.1 + 64 := h 1
    omega
  · intro h a
    fin_cases a
    · exact ⟨Nat.zero_le _, show (i 0).1 < 0 + 2 by have : (i 0).1 < 2 := (i 0).2; omega⟩
    · show 64 * n.1 ≤ (i 1).1 ∧ (i 1).1 < 64 * n.1 + 64
      omega
    · exact ⟨Nat.zero_le _, show (i 2).1 < 0 + 512 by have : (i 2).1 < 512 := (i 2).2; omega⟩

theorem mem_gCh (k : Fin 4) (n : Fin 32) (i : (G k).view.ty.Idx) : i ∈ (gCh k n).view.set ↔ rowOf k i / 64 = n.1 := by
  revert i
  fin_cases k
  · exact fun i => by rw [show (gCh 0 n).view.set = _ from View.set_slice_whole cc0_scratch0 _]; exact mem_chunk n i
  · exact fun i => by rw [show (gCh 1 n).view.set = _ from View.set_slice_whole cc0_scratch1 _]; exact mem_chunk n i
  · exact fun i => by rw [show (gCh 2 n).view.set = _ from View.set_slice_whole cc0_scratch0 _]; exact mem_chunk n i
  · exact fun i => by rw [show (gCh 3 n).view.set = _ from View.set_slice_whole cc0_scratch1 _]; exact mem_chunk n i

theorem gCh_disjoint (k : Fin 4) {n n' : Fin 32} (h : n ≠ n') : Disjoint (gCh k n).view.set (gCh k n').view.set :=
  Finset.disjoint_left.mpr fun i hi hi' => h (Fin.ext (((mem_gCh k n i).mp hi).symm.trans ((mem_gCh k n' i).mp hi')))

/-- The elements of chunk `n`. -/
abbrev gSet (k : Fin 4) (n : Fin 32) : Finset (G k).view.ty.Idx := (gCh k n).view.set
/-- The rows that came at hop `t`. -/
abbrev hSet (c : Dev nD) (k : Fin 4) (t : ℕ) : Finset (G k).view.ty.Idx := gSet k (chk k c (t + 1) 0) ∪ gSet k (chk k c (t + 1) 1)

def hPts (k : Fin 4) (t : ℕ) : sProp 𝕄 := (G k).view.loc (c : Thread nD τ) ↦[hSet c k t]{fullShare.left} (GC m k)

theorem sub_ne : ∀ k, (sub k 0).1 ≠ (sub k 1).1 := by decide
theorem chk_sub_ne (k : Fin 4) (t : ℕ) : chk k c t 0 ≠ chk k c t 1 := by
  intro h
  have h' : 4 * blkOf k c t + (sub k 0).1 = 4 * blkOf k c t + (sub k 1).1 := congrArg Fin.val h
  have := sub_ne k
  omega

theorem hPts_eq (k : Fin 4) (t : ℕ) :
    iprop(gPts c k (chk k c (t + 1) 0) fullShare.left (GC m k) ∗ gPts c k (chk k c (t + 1) 1) fullShare.left (GC m k)) ⊣⊢ hPts m c k t := by
  have h : ((G k).view.loc (c : Thread nD τ) ↦[gSet k (chk k c (t + 1) 0) ∪ gSet k (chk k c (t + 1) 1)]{fullShare.left} (GC m k) : sProp 𝕄)
      ⊣⊢ _ := pointsTo_union (gCh_disjoint k (chk_sub_ne c k (t + 1)))
  exact ⟨h.2, h.1⟩

end Cert.Proof.Ker
-- ==== Proof.Sums.lean ====
/- What one head, and the sixteen heads of a hop, do to the weighted sum and the normaliser. -/
module

public import proofs.«01_k».proof.Proof.Heads

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The buffers of the sums, as values -/

/-- A value the size of a block. -/
abbrev Blk (F : FTy → Type) (e : EltTy) : Type := S2x256x512.Idx → Elt F e
/-- A value the size of the gathered blocks. -/
abbrev Gat (F : FTy → Type) (e : EltTy) : Type := S2x2048x512.Idx → Elt F e

/-- The weighted sum and the normaliser. -/
abbrev OL (F : FTy → Type) : Type := Blk F .f32 × Blk F .f32

/-- One head of a block, read and rewritten. -/
def getO (b : Fin 2) (h : Fin 8) (f : Blk F .f32) : Vec F S1x256x64 .f32 := (oM.access (rH b h)).read (Elt F) f
def putO (b : Fin 2) (h : Fin 8) (f : Blk F .f32) (w : Vec F S1x256x64 .f32) : Blk F .f32 := (oM.access (rH b h)).write (Elt F) f w Finset.univ
def getL (b : Fin 2) (h : Fin 8) (f : Blk F .f32) : Vec F S1x256x64 .f32 := (lM.access (rH b h)).read (Elt F) f
def putL (b : Fin 2) (h : Fin 8) (f : Blk F .f32) (w : Vec F S1x256x64 .f32) : Blk F .f32 := (lM.access (rH b h)).write (Elt F) f w Finset.univ
def getQ (b : Fin 2) (h : Fin 8) (f : Blk F .bf16) : Vec F S1x256x64 .bf16 := (qsM.access (rH b h)).read (Elt F) f
def getKB (b : Fin 2) (h : Fin 8) (f : Blk F .fp8e4m3) : Vec F S1x256x64 .fp8e4m3 := (kbM.access (rH b h)).read (Elt F) f
def getVB (b : Fin 2) (h : Fin 8) (f : Blk F .fp8e4m3) : Vec F S1x256x64 .fp8e4m3 := (vbM.access (rH b h)).read (Elt F) f
def getKG (b : Fin 2) (r : ℕ) (hr : r + 128 ≤ 2048) (h : Fin 8) (f : Gat F .fp8e4m3) : Vec F S1x128x64 .fp8e4m3 := (kgM.access (rG b r hr h)).read (Elt F) f
def getVG (b : Fin 2) (r : ℕ) (hr : r + 128 ≤ 2048) (h : Fin 8) (f : Gat F .fp8e4m3) : Vec F S1x128x64 .fp8e4m3 := (vgM.access (rG b r hr h)).read (Elt F) f

/-- The scaled queries. -/
def qC : Blk F .bf16 := k0_pay89 (qst m c)

/-- One head of the own block. -/
def ownStep (st : OL F) (x : Fin 2 × Fin 8) : OL F :=
  (putO x.1 x.2 st.1 (outOwn (getKB x.1 x.2 (kC m c)) (getVB x.1 x.2 (vC m c)) (getQ x.1 x.2 (qC m c)) (getO x.1 x.2 st.1)),
   putL x.1 x.2 st.2 (lOwn (getKB x.1 x.2 (kC m c)) (getQ x.1 x.2 (qC m c)) (getL x.1 x.2 st.2)))

/-- The gathered keys and values. -/
abbrev KG : Gat F .fp8e4m3 := gath (kC m)
abbrev VG : Gat F .fp8e4m3 := gath (vC m)

/-- One head of hop `t`. -/
def hopStep (t : ℕ) (st : OL F) (x : Fin 2 × Fin 8) : OL F :=
  (putO x.1 x.2 st.1 (outHop (getKG x.1 (rowA c t) (rowA_le c t) x.2 (KG m)) (getKG x.1 (rowB c t) (rowB_le c t) x.2 (KG m))
      (getVG x.1 (rowA c t) (rowA_le c t) x.2 (VG m)) (getVG x.1 (rowB c t) (rowB_le c t) x.2 (VG m)) (getQ x.1 x.2 (qC m c)) (getO x.1 x.2 st.1)),
   putL x.1 x.2 st.2 (lHop (getKG x.1 (rowA c t) (rowA_le c t) x.2 (KG m)) (getKG x.1 (rowB c t) (rowB_le c t) x.2 (KG m))
      (getQ x.1 x.2 (qC m c)) (getL x.1 x.2 st.2)))

/-- The sums after the own block and `n` hops. -/
def sums : ℕ → OL F
  | 0 => parts.foldl (ownStep m c) (k0_pay87 (F := F), k0_pay87 (F := F))
  | n + 1 => parts.foldl (hopStep m c n) (sums n)

/-- One batch entry divided by its normaliser. -/
def finStep (b : Fin 2) (o l : Blk F .f32) : Blk F .f32 :=
  (oM.access (rF b)).write (Elt F) o (k0_pay242 ((oM.access (rF b)).read (Elt F) o) ((lM.access (rF b)).read (Elt F) l)) Finset.univ

/-- The result of device `c`. -/
def outC : Blk F .f32 := finStep 1 (finStep 0 (sums m c 7).1 (sums m c 7).2) (sums m c 7).2

/-! ## The buffers, held -/

def olPts (st : OL F) : sProp 𝕄 :=
  iprop(((c : Thread nD τ).loc cc0_stg3_0 ↦{fullShare} st.1) ∗ ((c : Thread nD τ).loc cc0_scratch2 ↦{fullShare} st.2))
def qsPts : sProp 𝕄 := iprop((c : Thread nD τ).loc cc0_scratch3 ↦{fullShare} qC m c)
/-- The half of the own blocks that stays. -/
def kvPts : sProp 𝕄 :=
  iprop(((c : Thread nD τ).loc cc0_scratch4 ↦{fullShare.left} kC m c) ∗ ((c : Thread nD τ).loc cc0_scratch5 ↦{fullShare.left} vC m c))

set_option maxHeartbeats 800000 in
theorem wp_headOwn (x : Fin 2 × Fin 8) (st : OL F) :
    iprop(kvPts m c ∗ qsPts m c ∗ olPts c st) ⊢ Wp c (headOwn (F := F) x.1 x.2) fun _ => iprop(kvPts m c ∗ qsPts m c ∗ olPts c (ownStep m c st x)) := by
  unfold headOwn kvPts qsPts olPts
  simp only [Prog.lift, Prog.bind_op, Prog.bind_ret]
  iintro ⟨⟨Hk, Hv⟩, Hq, ⟨Ho, Hl⟩⟩
  iapply (wp_load_rect 𝒱₀ (c : Thread nD τ) none Set.univ (m := kbM) (r := rH x.1 x.2) (Finset.subset_univ _)) $$ Hk; iintro Hk
  iapply (wp_load_rect 𝒱₀ (c : Thread nD τ) none Set.univ (m := vbM) (r := rH x.1 x.2) (Finset.subset_univ _)) $$ Hv; iintro Hv
  iapply (wp_load_rect 𝒱₀ (c : Thread nD τ) none Set.univ (m := qsM) (r := rH x.1 x.2) (Finset.subset_univ _)) $$ Hq; iintro Hq
  iapply (wp_load_rect 𝒱₀ (c : Thread nD τ) none Set.univ (m := oM) (r := rH x.1 x.2) (Finset.subset_univ _)) $$ Ho; iintro Ho
  iapply (wp_load_rect 𝒱₀ (c : Thread nD τ) none Set.univ (m := oM) (r := rH x.1 x.2) (Finset.subset_univ _)) $$ Ho; iintro Ho
  iapply (wp_store 𝒱₀ (c : Thread nD τ) none Set.univ (m := oM) (r := rH x.1 x.2) (Mk := Finset.univ) (Finset.subset_univ _)) $$ Ho; iintro Ho
  iapply (wp_load_rect 𝒱₀ (c : Thread nD τ) none Set.univ (m := lM) (r := rH x.1 x.2) (Finset.subset_univ _)) $$ Hl; iintro Hl
  iapply (wp_load_rect 𝒱₀ (c : Thread nD τ) none Set.univ (m := lM) (r := rH x.1 x.2) (Finset.subset_univ _)) $$ Hl; iintro Hl
  iapply (wp_store 𝒱₀ (c : Thread nD τ) none Set.univ (m := lM) (r := rH x.1 x.2) (Mk := Finset.univ) (Finset.subset_univ _)) $$ Hl; iintro Hl
  rw [wp_ret]; imodintro
  isplitl [Hk Hv]; · isplitl [Hk] <;> iassumption
  isplitl [Hq]; · iexact Hq
  isplitl [Ho]
  · iexact Ho
  · iexact Hl

/-- The rows that a head of hop `t` reads are the rows that came. -/
theorem rect_rows (b : Fin 2) (r : ℕ) (hr : r + 128 ≤ 2048) (h : Fin 8) (i : S2x2048x512.Idx) (hi : i ∈ (rG b r hr h).set) :
    r ≤ (i 1).1 ∧ (i 1).1 < r + 128 := by
  have := (Rect.mem_set_unit.mp hi) 1
  exact this

theorem chk_val (k : Fin 4) (t : ℕ) (s : Fin 2) : (chk k c t s).1 = 4 * blkOf k c t + (sub k s).1 := rfl

theorem rows_hSet (k : Fin 4) (t : ℕ) (i : (G k).view.ty.Idx) (r : ℕ) (hr : r = 256 * blkOf k c (t + 1) + 64 * (sub k 0).1)
    (h1 : r ≤ rowOf k i) (h2 : rowOf k i < r + 128) : i ∈ hSet c k t := by
  have hs : (sub k 1).1 = (sub k 0).1 + 1 := by revert k; intro k _ _ _ _; clear * -; revert k; decide
  refine Finset.mem_union.mpr ?_
  by_cases hlt : rowOf k i < r + 64
  · refine Or.inl ((mem_gCh k _ i).mpr ?_)
    rw [chk_val]; omega
  · refine Or.inr ((mem_gCh k _ i).mpr ?_)
    rw [chk_val]; omega

theorem rA_sub0 (b : Fin 2) (h : Fin 8) (t : ℕ) : (kgM.access (rG b (rowA c t) (rowA_le c t) h)).set ⊆ hSet c 0 t := by
  intro i hi
  rw [show (kgM.access (rG b (rowA c t) (rowA_le c t) h)).set = _ from View.set_slice_whole cc0_scratch0 _] at hi
  have hr := rect_rows b _ _ h i hi
  exact rows_hSet c 0 t i (rowA c t) (by unfold rowA; rfl) hr.1 hr.2
theorem rA_sub1 (b : Fin 2) (h : Fin 8) (t : ℕ) : (vgM.access (rG b (rowA c t) (rowA_le c t) h)).set ⊆ hSet c 1 t := by
  intro i hi
  rw [show (vgM.access (rG b (rowA c t) (rowA_le c t) h)).set = _ from View.set_slice_whole cc0_scratch1 _] at hi
  have hr := rect_rows b _ _ h i hi
  exact rows_hSet c 1 t i (rowA c t) (by unfold rowA; rfl) hr.1 hr.2
theorem rB_sub2 (b : Fin 2) (h : Fin 8) (t : ℕ) : (kgM.access (rG b (rowB c t) (rowB_le c t) h)).set ⊆ hSet c 2 t := by
  intro i hi
  rw [show (kgM.access (rG b (rowB c t) (rowB_le c t) h)).set = _ from View.set_slice_whole cc0_scratch0 _] at hi
  have hr := rect_rows b _ _ h i hi
  exact rows_hSet c 2 t i (rowB c t) (by unfold rowB; rfl) hr.1 hr.2
theorem rB_sub3 (b : Fin 2) (h : Fin 8) (t : ℕ) : (vgM.access (rG b (rowB c t) (rowB_le c t) h)).set ⊆ hSet c 3 t := by
  intro i hi
  rw [show (vgM.access (rG b (rowB c t) (rowB_le c t) h)).set = _ from View.set_slice_whole cc0_scratch1 _] at hi
  have hr := rect_rows b _ _ h i hi
  exact rows_hSet c 3 t i (rowB c t) (by unfold rowB; rfl) hr.1 hr.2

set_option maxHeartbeats 800000 in
theorem wp_headHop (t : ℕ) (x : Fin 2 × Fin 8) (st : OL F) :
    iprop(four (fun k => hPts m c k t) ∗ qsPts m c ∗ olPts c st)
      ⊢ Wp c (headHop (F := F) (rowA c t) (rowB c t) (rowA_le c t) (rowB_le c t) x.1 x.2)
          fun _ => iprop(four (fun k => hPts m c k t) ∗ qsPts m c ∗ olPts c (hopStep m c t st x)) := by
  unfold headHop four hPts qsPts olPts
  simp only [Prog.lift, Prog.bind_op, Prog.bind_ret]
  iintro ⟨⟨H0, H1, H2, H3⟩, Hq, ⟨Ho, Hl⟩⟩
  iapply (wp_load_rect 𝒱₀ (c : Thread nD τ) none Set.univ (m := kgM) (r := rG x.1 (rowA c t) (rowA_le c t) x.2) (rA_sub0 c x.1 x.2 t)) $$ H0; iintro H0
  iapply (wp_load_rect 𝒱₀ (c : Thread nD τ) none Set.univ (m := kgM) (r := rG x.1 (rowB c t) (rowB_le c t) x.2) (rB_sub2 c x.1 x.2 t)) $$ H2; iintro H2
  iapply (wp_load_rect 𝒱₀ (c : Thread nD τ) none Set.univ (m := vgM) (r := rG x.1 (rowA c t) (rowA_le c t) x.2) (rA_sub1 c x.1 x.2 t)) $$ H1; iintro H1
  iapply (wp_load_rect 𝒱₀ (c : Thread nD τ) none Set.univ (m := vgM) (r := rG x.1 (rowB c t) (rowB_le c t) x.2) (rB_sub3 c x.1 x.2 t)) $$ H3; iintro H3
  iapply (wp_load_rect 𝒱₀ (c : Thread nD τ) none Set.univ (m := qsM) (r := rH x.1 x.2) (Finset.subset_univ _)) $$ Hq; iintro Hq
  iapply (wp_load_rect 𝒱₀ (c : Thread nD τ) none Set.univ (m := oM) (r := rH x.1 x.2) (Finset.subset_univ _)) $$ Ho; iintro Ho
  iapply (wp_load_rect 𝒱₀ (c : Thread nD τ) none Set.univ (m := oM) (r := rH x.1 x.2) (Finset.subset_univ _)) $$ Ho; iintro Ho
  iapply (wp_store 𝒱₀ (c : Thread nD τ) none Set.univ (m := oM) (r := rH x.1 x.2) (Mk := Finset.univ) (Finset.subset_univ _)) $$ Ho; iintro Ho
  iapply (wp_load_rect 𝒱₀ (c : Thread nD τ) none Set.univ (m := lM) (r := rH x.1 x.2) (Finset.subset_univ _)) $$ Hl; iintro Hl
  iapply (wp_load_rect 𝒱₀ (c : Thread nD τ) none Set.univ (m := lM) (r := rH x.1 x.2) (Finset.subset_univ _)) $$ Hl; iintro Hl
  iapply (wp_store 𝒱₀ (c : Thread nD τ) none Set.univ (m := lM) (r := rH x.1 x.2) (Mk := Finset.univ) (Finset.subset_univ _)) $$ Hl; iintro Hl
  rw [wp_ret]; imodintro
  isplitl [H0 H1 H2 H3]
  · isplitl [H0]; · iexact H0
    isplitl [H1]; · iexact H1
    isplitl [H2] <;> iassumption
  isplitl [Hq]; · iexact Hq
  isplitl [Ho]
  · iexact Ho
  · iexact Hl

/-- A list of pieces that each step a state. -/
theorem wp_seqP {α S : Type} (f : Fin 2 × Fin 8 → Pr F PUnit) (k : Pr F α) (step : S → Fin 2 × Fin 8 → S) (I : S → sProp 𝕄) (Q : α → sProp 𝕄)
    (h : ∀ x s, I s ⊢ Wp c (f x) fun _ => I (step s x)) :
    ∀ (l : List (Fin 2 × Fin 8)) (s : S), I s ⊢ iprop((I (l.foldl step s) -∗ Wp c k Q) -∗ Wp c (seqP f k l) Q)
  | [], s => by
    simp only [List.foldl_nil, seqP]
    iintro HI HK
    iapply HK; iexact HI
  | x :: l, s => by
    iintro HI HK
    iapply (wp_step (h x s)) $$ HI
    iintro %_ HI
    iapply (wp_seqP f k step I Q h l (step s x)) $$ HI
    iexact HK

/-! ## The casts, the zeroing, the division -/

theorem hz3 : (![0, 0, 0] : Fin 3 → Nat) = fun _ => 0 := funext fun a => by fin_cases a <;> rfl

theorem read_q (f : (cc0_stg0_0 : Ref sig .tc).ty.Contents (Elt F)) : (qM : Memref sig .tc .vmem S2x256x512 .f32).view.readAt (Elt F) rW.toLoadRect f = f :=
  Memref.readAt_unit_zero (Elt F) cc0_stg0_0 hz3 _ f
theorem read_k (f : (cc0_stg1_0 : Ref sig .tc).ty.Contents (Elt F)) : (kM : Memref sig .tc .vmem S2x256x512 .f32).view.readAt (Elt F) rW.toLoadRect f = f :=
  Memref.readAt_unit_zero (Elt F) cc0_stg1_0 hz3 _ f
theorem read_v (f : (cc0_stg2_0 : Ref sig .tc).ty.Contents (Elt F)) : (vM : Memref sig .tc .vmem S2x256x512 .f32).view.readAt (Elt F) rW.toLoadRect f = f :=
  Memref.readAt_unit_zero (Elt F) cc0_stg2_0 hz3 _ f
theorem write_kb (f w : (cc0_scratch4 : Ref sig .tc).ty.Contents (Elt F)) :
    ((kbM : Memref sig .tc .vmem S2x256x512 .fp8e4m3).access rW : View sig .tc _ _ _).write (Elt F) f w Finset.univ = w :=
  Memref.write_access_unit_zero_univ (Elt F) cc0_scratch4 hz3 _ f w
theorem write_vb (f w : (cc0_scratch5 : Ref sig .tc).ty.Contents (Elt F)) :
    ((vbM : Memref sig .tc .vmem S2x256x512 .fp8e4m3).access rW : View sig .tc _ _ _).write (Elt F) f w Finset.univ = w :=
  Memref.write_access_unit_zero_univ (Elt F) cc0_scratch5 hz3 _ f w
theorem write_qs (f w : (cc0_scratch3 : Ref sig .tc).ty.Contents (Elt F)) :
    ((qsM : Memref sig .tc .vmem S2x256x512 .bf16).access rW : View sig .tc _ _ _).write (Elt F) f w Finset.univ = w :=
  Memref.write_access_unit_zero_univ (Elt F) cc0_scratch3 hz3 _ f w
theorem write_o (f w : (cc0_stg3_0 : Ref sig .tc).ty.Contents (Elt F)) :
    ((oM : Memref sig .tc .vmem S2x256x512 .f32).access rW : View sig .tc _ _ _).write (Elt F) f w Finset.univ = w :=
  Memref.write_access_unit_zero_univ (Elt F) cc0_stg3_0 hz3 _ f w
theorem write_l (f w : (cc0_scratch2 : Ref sig .tc).ty.Contents (Elt F)) :
    ((lM : Memref sig .tc .vmem S2x256x512 .f32).access rW : View sig .tc _ _ _).write (Elt F) f w Finset.univ = w :=
  Memref.write_access_unit_zero_univ (Elt F) cc0_scratch2 hz3 _ f w

theorem wp_casts (fk : (cc0_scratch4 : Ref sig .tc).ty.Contents (Elt F)) (fv : (cc0_scratch5 : Ref sig .tc).ty.Contents (Elt F)) :
    iprop(((c : Thread nD τ).loc cc0_stg1_0 ↦{fullShare} kst m c) ∗ ((c : Thread nD τ).loc cc0_stg2_0 ↦{fullShare} vst m c)
        ∗ ((c : Thread nD τ).loc cc0_scratch4 ↦{fullShare} fk) ∗ ((c : Thread nD τ).loc cc0_scratch5 ↦{fullShare} fv))
      ⊢ Wp c (casts (F := F)) fun _ => iprop(((c : Thread nD τ).loc cc0_stg1_0 ↦{fullShare} kst m c) ∗ ((c : Thread nD τ).loc cc0_stg2_0 ↦{fullShare} vst m c)
        ∗ ((c : Thread nD τ).loc cc0_scratch4 ↦{fullShare} kC m c) ∗ ((c : Thread nD τ).loc cc0_scratch5 ↦{fullShare} vC m c)) := by
  unfold casts
  simp only [Prog.lift, Prog.bind_op, Prog.bind_ret]
  iintro ⟨Hk, Hv, Hkb, Hvb⟩
  iapply (wp_load 𝒱₀ (c : Thread nD τ) none Set.univ (m := kM) (Finset.subset_univ _)) $$ Hk; iintro Hk
  rw [read_k]
  iapply (wp_load 𝒱₀ (c : Thread nD τ) none Set.univ (m := kbM) (Finset.subset_univ _)) $$ Hkb; iintro Hkb
  iapply (wp_store 𝒱₀ (c : Thread nD τ) none Set.univ (m := kbM) (r := rW) (Mk := Finset.univ) (Finset.subset_univ _)) $$ Hkb; iintro Hkb
  rw [write_kb]
  iapply (wp_load 𝒱₀ (c : Thread nD τ) none Set.univ (m := vM) (Finset.subset_univ _)) $$ Hv; iintro Hv
  rw [read_v]
  iapply (wp_load 𝒱₀ (c : Thread nD τ) none Set.univ (m := vbM) (Finset.subset_univ _)) $$ Hvb; iintro Hvb
  iapply (wp_store 𝒱₀ (c : Thread nD τ) none Set.univ (m := vbM) (r := rW) (Mk := Finset.univ) (Finset.subset_univ _)) $$ Hvb; iintro Hvb
  rw [write_vb, wp_ret]; imodintro
  isplitl [Hk]; · iexact Hk
  isplitl [Hv]; · iexact Hv
  isplitl [Hkb]
  · iexact Hkb
  · iexact Hvb

theorem wp_inits (fo : (cc0_stg3_0 : Ref sig .tc).ty.Contents (Elt F)) (fl : (cc0_scratch2 : Ref sig .tc).ty.Contents (Elt F))
    (fq : (cc0_scratch3 : Ref sig .tc).ty.Contents (Elt F)) :
    iprop(((c : Thread nD τ).loc cc0_stg0_0 ↦{fullShare} qst m c) ∗ ((c : Thread nD τ).loc cc0_stg3_0 ↦{fullShare} fo)
        ∗ ((c : Thread nD τ).loc cc0_scratch2 ↦{fullShare} fl) ∗ ((c : Thread nD τ).loc cc0_scratch3 ↦{fullShare} fq))
      ⊢ Wp c (inits (F := F)) fun _ => iprop(((c : Thread nD τ).loc cc0_stg0_0 ↦{fullShare} qst m c)
        ∗ olPts c (k0_pay87 (F := F), k0_pay87 (F := F)) ∗ qsPts m c) := by
  unfold inits
  simp only [Prog.lift, Prog.bind_op, Prog.bind_ret]
  iintro ⟨Hq, Ho, Hl, Hs⟩
  iapply (wp_load 𝒱₀ (c : Thread nD τ) none Set.univ (m := oM) (Finset.subset_univ _)) $$ Ho; iintro Ho
  iapply (wp_store 𝒱₀ (c : Thread nD τ) none Set.univ (m := oM) (r := rW) (Mk := Finset.univ) (Finset.subset_univ _)) $$ Ho; iintro Ho
  rw [write_o]
  iapply (wp_load 𝒱₀ (c : Thread nD τ) none Set.univ (m := lM) (Finset.subset_univ _)) $$ Hl; iintro Hl
  iapply (wp_store 𝒱₀ (c : Thread nD τ) none Set.univ (m := lM) (r := rW) (Mk := Finset.univ) (Finset.subset_univ _)) $$ Hl; iintro Hl
  rw [write_l]
  iapply (wp_load 𝒱₀ (c : Thread nD τ) none Set.univ (m := qM) (Finset.subset_univ _)) $$ Hq; iintro Hq
  rw [read_q]
  iapply (wp_load 𝒱₀ (c : Thread nD τ) none Set.univ (m := qsM) (Finset.subset_univ _)) $$ Hs; iintro Hs
  iapply (wp_store 𝒱₀ (c : Thread nD τ) none Set.univ (m := qsM) (r := rW) (Mk := Finset.univ) (Finset.subset_univ _)) $$ Hs; iintro Hs
  rw [write_qs, wp_ret]; imodintro
  unfold olPts qsPts
  isplitl [Hq]; · iexact Hq
  isplitl [Ho Hl]
  · isplitl [Ho]
    · iexact Ho
    · iexact Hl
  · iexact Hs

theorem wp_finish (b : Fin 2) (o l : Blk F .f32) :
    olPts c (o, l) ⊢ Wp c (finish (F := F) b) fun _ => olPts c (finStep b o l, l) := by
  unfold finish olPts
  simp only [Prog.lift, Prog.bind_op, Prog.bind_ret]
  iintro ⟨Ho, Hl⟩
  iapply (wp_load_rect 𝒱₀ (c : Thread nD τ) none Set.univ (m := oM) (r := rF b) (Finset.subset_univ _)) $$ Ho; iintro Ho
  iapply (wp_load_rect 𝒱₀ (c : Thread nD τ) none Set.univ (m := lM) (r := rF b) (Finset.subset_univ _)) $$ Hl; iintro Hl
  iapply (wp_load_rect 𝒱₀ (c : Thread nD τ) none Set.univ (m := oM) (r := rF b) (Finset.subset_univ _)) $$ Ho; iintro Ho
  iapply (wp_store 𝒱₀ (c : Thread nD τ) none Set.univ (m := oM) (r := rF b) (Mk := Finset.univ) (Finset.subset_univ _)) $$ Ho; iintro Ho
  rw [wp_ret]; imodintro
  isplitl [Ho]
  · iexact Ho
  · iexact Hl

end Cert.Proof.Ker
-- ==== Proof.Flow.lean ====
/- The body of a device as a whole: the hop loop, the last hop, the loop that waits for the forwards. -/
module

public import proofs.«01_k».proof.Proof.Sums

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem wp_done {α : Type} {c : Dev nD} {a : α} {Q : α → sProp 𝕄} : Q a ⊢ Wp c (pure a : Pr F α) Q := by
  unfold Wp
  rw [Prog.pure_eq_ret, wp_ret]
  iintro H; imodintro; iexact H

/-! ## Families over the hops -/

/-- The hops from `n` on, and the hops before `n`. -/
def geS (n : ℕ) : Finset (Fin 7) := Finset.univ.filter fun j => n ≤ j.1
def ltS (n : ℕ) : Finset (Fin 7) := Finset.univ.filter fun j => j.1 < n

theorem geS_zero : geS 0 = Finset.univ := by decide
theorem geS_top : geS 7 = ∅ := by decide
theorem ltS_zero : ltS 0 = ∅ := by decide
theorem ltS_top : ltS 7 = Finset.univ := by decide
theorem geS_ins : ∀ t : Fin 7, geS t.1 = insert t (geS (t.1 + 1)) ∧ t ∉ geS (t.1 + 1) := by decide
theorem ltS_ins : ∀ t : Fin 7, ltS (t.1 + 1) = insert t (ltS t.1) ∧ t ∉ ltS t.1 := by decide

theorem ge_peel (t : Fin 7) (Φ : Fin 7 → sProp 𝕄) : bigSep (geS t.1) Φ = iprop(Φ t ∗ bigSep (geS (t.1 + 1)) Φ) := by
  rw [(geS_ins t).1, bigSep_insert (geS_ins t).2]; rfl
theorem lt_peel (t : Fin 7) (Φ : Fin 7 → sProp 𝕄) : bigSep (ltS (t.1 + 1)) Φ = iprop(Φ t ∗ bigSep (ltS t.1) Φ) := by
  rw [(ltS_ins t).1, bigSep_insert (ltS_ins t).2]; rfl

/-- All the hops. -/
def hops (Φ : Fin 7 → Fin 2 → Fin 4 → sProp 𝕄) : sProp 𝕄 := bigSep Finset.univ (hop Φ)

theorem four_sep (A B : Fin 4 → sProp 𝕄) : four (fun k => iprop(A k ∗ B k)) ⊣⊢ iprop(four A ∗ four B) := by
  unfold four
  constructor
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  · iintro ⟨⟨A0, A1, A2, A3⟩, ⟨B0, B1, B2, B3⟩⟩
    isplitl [A0 B0]; · isplitl [A0] <;> iassumption
    isplitl [A1 B1]; · isplitl [A1] <;> iassumption
    isplitl [A2 B2]; · isplitl [A2] <;> iassumption
    isplitl [A3] <;> iassumption

theorem four_mono {A B : Fin 4 → sProp 𝕄} (h : ∀ k, A k ⊢ B k) : four A ⊢ four B := by
  unfold four
  exact BIClass.sep_mono (h 0) (BIClass.sep_mono (h 1) (BIClass.sep_mono (h 2) (h 3)))

theorem hop_sep (A B : Fin 7 → Fin 2 → Fin 4 → sProp 𝕄) (t : Fin 7) :
    hop (fun t s k => iprop(A t s k ∗ B t s k)) t ⊣⊢ iprop(hop A t ∗ hop B t) := by
  unfold hop
  constructor
  · iintro ⟨H0, H1⟩
    ihave G0 := (four_sep (A t 0) (B t 0)).1 $$ H0
    ihave G1 := (four_sep (A t 1) (B t 1)).1 $$ H1
    icases G0 with ⟨A0, B0⟩
    icases G1 with ⟨A1, B1⟩
    isplitl [A0 A1]
    · isplitl [A0] <;> iassumption
    · isplitl [B0] <;> iassumption
  · iintro ⟨⟨A0, A1⟩, ⟨B0, B1⟩⟩
    isplitl [A0 B0]
    · iapply (four_sep (A t 0) (B t 0)).2; isplitl [A0] <;> iassumption
    · iapply (four_sep (A t 1) (B t 1)).2; isplitl [A1] <;> iassumption

theorem hops_sep (A B : Fin 7 → Fin 2 → Fin 4 → sProp 𝕄) :
    hops (fun t s k => iprop(A t s k ∗ B t s k)) ⊣⊢ iprop(hops A ∗ hops B) := by
  unfold hops
  constructor
  · exact (bigSep_mono fun t _ => (hop_sep A B t).1).trans (Entails.of_eq (bigSep_sep' Finset.univ _ _))
  · exact (Entails.of_eq (bigSep_sep' Finset.univ _ _).symm).trans (bigSep_mono fun t _ => (hop_sep A B t).2)

theorem hop_mono {A B : Fin 7 → Fin 2 → Fin 4 → sProp 𝕄} (h : ∀ t s k, A t s k ⊢ B t s k) (t : Fin 7) : hop A t ⊢ hop B t := by
  unfold hop; exact BIClass.sep_mono (four_mono (h t 0)) (four_mono (h t 1))

theorem hops_mono {A B : Fin 7 → Fin 2 → Fin 4 → sProp 𝕄} (h : ∀ t s k, A t s k ⊢ B t s k) : hops A ⊢ hops B := by
  unfold hops; exact bigSep_mono fun t _ => hop_mono h t

theorem ge_peelH (t : Fin 7) (Φ : Fin 7 → Fin 2 → Fin 4 → sProp 𝕄) :
    bigSep (geS t.1) (hop Φ) = iprop((four (Φ t 0) ∗ four (Φ t 1)) ∗ bigSep (geS (t.1 + 1)) (hop Φ)) := ge_peel t (hop Φ)

/-! ## The heads of a hop -/

/-- The closed cells of a hop. -/
abbrev GotV (t : Fin 7) (s : Fin 2) (k : Fin 4) : sProp 𝕄 := semVal (dcell c (recvS k t s)) 0
abbrev GotP (t : Fin 7) (s : Fin 2) (k : Fin 4) : sProp 𝕄 := gPts c k (chk k c (t.1 + 1) s) fullShare.left (GC m k)

theorem got_heads (t : Fin 7) : hop (Got m c) t ⊣⊢ iprop(hop (GotV (F := F) c) t ∗ four (fun k => hPts m c k t.1)) := by
  have h1 := hop_sep (GotV (F := F) c) (GotP m c) t
  have h2 : hop (GotP m c) t ⊣⊢ four (fun k => hPts m c k t.1) := by
    unfold hop
    refine (⟨(four_sep _ _).2, (four_sep _ _).1⟩ : iprop(four (GotP m c t 0) ∗ four (GotP m c t 1)) ⊣⊢ _).trans ?_
    exact ⟨four_mono fun k => (hPts_eq m c k t.1).1, four_mono fun k => (hPts_eq m c k t.1).2⟩
  constructor
  · refine BI.Entails.trans ?_ (h1.1.trans (BIClass.sep_mono (Entails.refl _) h2.1))
    exact hop_mono (fun t s k => by unfold Got; exact Entails.refl _) t
  · refine BI.Entails.trans ((BIClass.sep_mono (Entails.refl _) h2.2).trans h1.2) ?_
    exact hop_mono (fun t s k => by unfold Got; exact Entails.refl _) t

/-- The sixteen heads of a hop, before `k`. -/
theorem wp_headsHop {α : Type} (t : Fin 7) (k : Pr F α) (Q : α → sProp 𝕄) (st : OL F) :
    iprop(hop (Got m c) t ∗ qsPts m c ∗ olPts c st)
      ⊢ iprop(((hop (Got m c) t ∗ qsPts m c ∗ olPts c (parts.foldl (hopStep m c t.1) st)) -∗ Wp c k Q) -∗ Wp c (headsHop (F := F) c t.1 k) Q) := by
  unfold headsHop
  iintro ⟨HG, Hq, Ho⟩ HK
  ihave HG' := (got_heads m c t).1 $$ HG
  icases HG' with ⟨HV, Hh⟩
  iapply (wp_seqP (c := c) (fun x => headHop (rowA c t.1) (rowB c t.1) (rowA_le c t.1) (rowB_le c t.1) x.1 x.2) k (hopStep m c t.1)
    (fun st => iprop(four (fun k => hPts m c k t.1) ∗ qsPts m c ∗ olPts c st)) Q (fun x s => wp_headHop m c t.1 x s) parts st) $$ [Hh Hq Ho]
  · isplitl [Hh]; · iexact Hh
    isplitl [Hq] <;> iassumption
  iintro ⟨Hh, Hq, Ho⟩
  iapply HK
  isplitl [HV Hh]
  · iapply (got_heads m c t).2; isplitl [HV] <;> iassumption
  isplitl [Hq] <;> iassumption

/-! ## The hop loop -/

/-- What holds before trip `n`. -/
def inv (n : ℕ) : sProp 𝕄 :=
  iprop(ctx m K ∗ ow c (owe c (remS (6 - n))) ∗ bigSep (geS n) (hop (Rcv (F := F) c)) ∗ bigSep (geS (n + 1)) (hop (Snd (F := F) c))
    ∗ bigSep (ltS (n + 1)) (hop (Fly (F := F) c)) ∗ bigSep (ltS n) (hop (Got m c)) ∗ qsPts m c ∗ olPts c (sums m c n))

theorem remS_trip (t : Fin 6) : remS (6 - t.1) = listL t.succ 0 (listL t.succ 1 (remS (6 - (t.1 + 1)))) := by
  have h := remS_hopL t.succ
  rw [show 7 - t.succ.1 = 6 - t.1 by rw [Fin.val_succ]; omega] at h
  rw [h]
  rfl

theorem remS_gt (n : ℕ) (hn : n ≤ 7) (x : X) (hx : x ∈ remS n) : 7 ≤ x.1.1 + n := remS_hop ⟨n, by omega⟩ x hx

theorem wp_trip (t : Fin 6) : inv m K c t.1 ⊢ Wp c (trip (F := F) c t) fun _ => inv m K c (t.1 + 1) := by
  unfold inv trip
  have e1 := ge_peelH (F := F) t.castSucc (Rcv (F := F) c)
  have e2 := ge_peelH (F := F) t.succ (Snd (F := F) c)
  have e3 := lt_peel (F := F) t.succ (hop (Fly (F := F) c))
  have e4 := lt_peel (F := F) t.castSucc (hop (Got m c))
  rw [Fin.val_castSucc] at e1 e4
  rw [Fin.val_succ] at e2 e3
  rw [e1, e2, e3, e4, remS_trip]
  iintro ⟨#Hctx, HO, ⟨⟨R0, R1⟩, HR⟩, ⟨⟨S0, S1⟩, HS⟩, HF, HG, Hq, Ho⟩
  have hl : ∀ x ∈ remS (6 - t.1), t.castSucc.1 < x.1.1 := fun x hx => by
    have := remS_gt _ (by omega) x hx; rw [Fin.val_castSucc]; omega
  rw [remS_trip] at hl
  iapply (wp_step (wp_recv4 m K c t.castSucc 0 _ hl)) $$ [R0 HO]
  · isplitr; · iexact Hctx
    isplitl [R0] <;> iassumption
  iintro %_ ⟨G0, T0, HO⟩
  iapply (wp_step (wp_fwd4 m K c t 0 _)) $$ [T0 S0 HO]
  · isplitr; · iexact Hctx
    isplitl [T0]; · iexact T0
    isplitl [S0] <;> iassumption
  iintro %_ ⟨F0, HO⟩
  iapply (wp_step (wp_recv4 m K c t.castSucc 1 _ fun x hx => hl x (by
    refine List.mem_cons_of_mem _ (List.mem_cons_of_mem _ (List.mem_cons_of_mem _ (List.mem_cons_of_mem _ hx)))))) $$ [R1 HO]
  · isplitr; · iexact Hctx
    isplitl [R1] <;> iassumption
  iintro %_ ⟨G1, T1, HO⟩
  iapply (wp_step (wp_fwd4 m K c t 1 _)) $$ [T1 S1 HO]
  · isplitr; · iexact Hctx
    isplitl [T1]; · iexact T1
    isplitl [S1] <;> iassumption
  iintro %_ ⟨F1, HO⟩
  have hh := wp_headsHop (F := F) m c t.castSucc (pure ⟨⟩) (fun _ : Unit => inv m K c (t.1 + 1)) (sums m c t.1)
  rw [Fin.val_castSucc] at hh
  unfold inv at hh
  rw [e3, e4] at hh
  iapply hh $$ [G0 G1 Hq Ho]
  · isplitl [G0 G1]
    · unfold hop; isplitl [G0] <;> iassumption
    isplitl [Hq] <;> iassumption
  iintro ⟨HGt, Hq, Ho⟩
  iapply (wp_done (c := c))
  isplitr; · iexact Hctx
  isplitl [HO]; · iexact HO
  isplitl [HR]; · iexact HR
  isplitl [HS]; · iexact HS
  isplitl [F0 F1 HF]
  · isplitl [F0 F1]
    · unfold hop; isplitl [F0] <;> iassumption
    · iexact HF
  isplitl [HGt HG]; · isplitl [HGt] <;> iassumption
  isplitl [Hq]; · iexact Hq
  iexact Ho

/-! ## The loop that waits for the forwards -/

/-- What holds before its trip `n`. -/
def invD (n : ℕ) : sProp 𝕄 :=
  iprop(ctx m K ∗ ow c 0 ∗ bigSep (geS (n + 1)) (hop (Fly (F := F) c)) ∗ bigSep (ltS (n + 1)) (hop (SDone m c)))

theorem wp_drainTrip (t : Fin 6) : invD m K c t.1 ⊢ Wp c (drainTrip (F := F) t) fun _ => invD m K c (t.1 + 1) := by
  unfold invD drainTrip
  have e2 := ge_peelH (F := F) t.succ (Fly (F := F) c)
  have e3 := lt_peel (F := F) t.succ (hop (SDone m c))
  rw [Fin.val_succ] at e2 e3
  rw [e2, e3]
  iintro ⟨#Hctx, HO, ⟨⟨F0, F1⟩, HF⟩, HD⟩
  iapply (wp_step (wp_drain4 m K c t.succ 0)) $$ [F0 HO]
  · isplitr; · iexact Hctx
    isplitl [F0] <;> iassumption
  iintro %_ ⟨D0, HO⟩
  iapply (wp_step (wp_drain4 m K c t.succ 1)) $$ [F1 HO]
  · isplitr; · iexact Hctx
    isplitl [F1] <;> iassumption
  iintro %_ ⟨D1, HO⟩
  iapply (wp_done (c := c))
  isplitr; · iexact Hctx
  isplitl [HO]; · iexact HO
  isplitl [HF]; · iexact HF
  isplitl [D0 D1]
  · unfold hop; isplitl [D0] <;> iassumption
  · iexact HD

/-! ## The last hop and the end -/

/-- What a device holds at the end. -/
def Fin_ : sProp 𝕄 :=
  iprop(ow c 0 ∗ hops (Got m c) ∗ hops (SDone m c) ∗ hop (Rt m c) 6 ∗ qsPts m c ∗ olPts c (outC m c, (sums m c 7).2))

theorem wp_tail : inv m K c 6 ⊢ Wp c (tailP (F := F) c) fun _ => Fin_ m c := by
  unfold inv tailP Fin_ hops
  have e1 := ge_peelH (F := F) (6 : Fin 7) (Rcv (F := F) c)
  have e4 := lt_peel (F := F) (6 : Fin 7) (hop (Got m c))
  rw [show bigSep (geS 6) (hop (Rcv (F := F) c)) = _ from e1, show bigSep Finset.univ (hop (Got m c)) = bigSep (ltS 7) (hop (Got m c)) by rw [ltS_top], show bigSep (ltS 7) (hop (Got m c)) = _ from e4,
    show remS (6 - 6) = [] from remS_zero]
  iintro ⟨#Hctx, HO, ⟨⟨R0, R1⟩, -⟩, -, HF, HG, Hq, Ho⟩
  iapply (wp_step (wp_recv4 m K c 6 0 [] (fun x hx => absurd hx List.not_mem_nil))) $$ [R0 HO]
  · isplitr; · iexact Hctx
    isplitl [R0] <;> iassumption
  iintro %_ ⟨G0, T0, HO⟩
  iapply (wp_step (wp_recv4 m K c 6 1 [] (fun x hx => absurd hx List.not_mem_nil))) $$ [R1 HO]
  · isplitr; · iexact Hctx
    isplitl [R1] <;> iassumption
  iintro %_ ⟨G1, T1, HO⟩
  iapply (wp_headsHop m c 6 _ _ (sums m c 6)) $$ [G0 G1 Hq Ho]
  · isplitl [G0 G1]
    · unfold hop; isplitl [G0] <;> iassumption
    isplitl [Hq] <;> iassumption
  iintro ⟨HGt, Hq, Ho⟩
  iapply (wp_step (wp_finish c 0 (sums m c 7).1 (sums m c 7).2)) $$ [Ho]
  · iexact Ho
  iintro %_ Ho
  iapply (wp_step (wp_finish c 1 _ _)) $$ Ho
  iintro %_ Ho
  have eF := ge_peelH (F := F) (0 : Fin 7) (Fly (F := F) c)
  rw [show geS (0 : Fin 7).1 = ltS (6 + 1) from geS_zero.trans ltS_top.symm] at eF
  ihave HF' := (Entails.of_eq eF) $$ HF
  icases HF' with ⟨⟨F0, F1⟩, HF⟩
  ihave HO := (Entails.of_eq (show ow (F := F) c (owe c []) = ow c 0 from rfl)) $$ HO
  iapply (wp_step (wp_drainOwn4 m K c 0)) $$ [F0 HO]
  · isplitr; · iexact Hctx
    isplitl [F0] <;> iassumption
  iintro %_ ⟨D0, HO⟩
  iapply (wp_step (wp_drainOwn4 m K c 1)) $$ [F1 HO]
  · isplitr; · iexact Hctx
    isplitl [F1] <;> iassumption
  iintro %_ ⟨D1, HO⟩
  iapply (Scf.wp_for_bind frame (wpE (defs₀ (F := F)) 𝒱₀ (c : Thread nD τ) none) Set.univ k0_t2_loop.lb k0_t2_loop.ub k0_t2_loop.st k0_t2_ok ⟨⟩
    (fun t _ => drainTrip ⟨t.1, t2_lt t⟩) (fun n _ => invD m K c n) (fun t _ => wp_drainTrip m K c ⟨t.1, t2_lt t⟩)) $$ [D0 D1 HO HF]
  · unfold invD
    isplitr; · iexact Hctx
    isplitl [HO]; · iexact HO
    isplitl [HF]; · iexact HF
    have eD := lt_peel (F := F) (0 : Fin 7) (hop (SDone m c))
    rw [show bigSep (ltS (0 + 1)) (hop (SDone m c)) = _ from eD]
    isplitl [D0 D1]
    · unfold hop; isplitl [D0] <;> iassumption
    · rw [show ltS (0 : Fin 7).1 = ∅ from ltS_zero, bigSep_empty]; iempintro
  iintro %_ HD
  unfold invD
  icases HD with ⟨-, HO, -, HD⟩
  have eU : bigSep (ltS (Scf.trips k0_t2_loop.lb k0_t2_loop.ub k0_t2_loop.st + 1)) (hop (SDone m c)) = bigSep Finset.univ (hop (SDone m c)) := by
    rw [← ltS_top]; rfl
  ihave HD := (Entails.of_eq eU) $$ HD
  iapply (wp_done (c := c))
  isplitl [HO]; · iexact HO
  isplitl [HGt HG]
  · isplitl [HGt]; · iexact HGt
    iexact HG
  isplitl [HD]; · iexact HD
  isplitl [T0 T1]
  · unfold hop; isplitl [T0]; · iexact T0
    iexact T1
  isplitl [Hq]; · iexact Hq
  iexact Ho

end Cert.Proof.Ker
-- ==== Proof.Body.lean ====
/- The body of a device from its entry to its end. -/
module

public import proofs.«01_k».proof.Proof.Flow
public import Idealize.ShloMosaic.Lib.Ring

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The own blocks, split for the sends -/

theorem mem_bchunk (n : Fin 4) (i : S2x256x512.Idx) :
    i ∈ (Rect.unit (s := S2x256x512) ![0, 64 * n.1, 0] S2x64x512.size (bInb n)).set ↔ (i 1).1 / 64 = n.1 := by
  rw [Rect.mem_set_unit]
  constructor
  · intro h
    have h1 : 64 * n.1 ≤ (i 1).1 ∧ (i 1).1 < 64 * n.1 + 64 := h 1
    omega
  · intro h a
    fin_cases a
    · exact ⟨Nat.zero_le _, show (i 0).1 < 0 + 2 by have : (i 0).1 < 2 := (i 0).2; omega⟩
    · show 64 * n.1 ≤ (i 1).1 ∧ (i 1).1 < 64 * n.1 + 64
      omega
    · exact ⟨Nat.zero_le _, show (i 2).1 < 0 + 512 by have : (i 2).1 < 512 := (i 2).2; omega⟩

theorem bchunk_disjoint (n n' : Fin 4) (hn : n ≠ n') :
    Disjoint (Rect.unit (s := S2x256x512) ![0, 64 * n.1, 0] S2x64x512.size (bInb n)).set (Rect.unit (s := S2x256x512) ![0, 64 * n'.1, 0] S2x64x512.size (bInb n')).set :=
  Finset.disjoint_left.mpr fun i hi hi' => hn (Fin.ext (((mem_bchunk n i).mp hi).symm.trans ((mem_bchunk n' i).mp hi')))

theorem bchunk_cover : (Finset.univ : Finset (Fin 4)).biUnion (fun n => (Rect.unit (s := S2x256x512) ![0, 64 * n.1, 0] S2x64x512.size (bInb n)).set) = Finset.univ :=
  Finset.eq_univ_of_forall fun i => Finset.mem_biUnion.mpr ⟨⟨(i 1).1 / 64, by
    have : (i 1).1 < 256 := (i 1).2; omega⟩, Finset.mem_univ _, (mem_bchunk _ i).mpr rfl⟩

/-- The own keys, chunk by chunk. -/
theorem kb_chunks (q : PosShare TreeShare) (f : (cc0_scratch4 : Ref sig .tc).ty.Contents (Elt F)) :
    (((c : Thread nD τ).loc cc0_scratch4) ↦{q} f : sProp 𝕄) = iprop(bPts c 0 0 q f ∗ bPts c 0 1 q f ∗ bPts c 0 2 q f ∗ bPts c 0 3 q f) := by
  rw [Ring.pointsTo_blocks (ℓ := (c : Thread nD τ).loc cc0_scratch4) (fun n : Fin 4 => (Rect.unit (s := S2x256x512) ![0, 64 * n.1, 0] S2x64x512.size (bInb n)).set) bchunk_disjoint bchunk_cover f,
    bigSep_univ_eq_bigSepL [0, 1, 2, 3] (by decide) (by decide)]
  have e : ∀ n : Fin 4, (bCh 0 n).view.set = (Rect.unit (s := S2x256x512) ![0, 64 * n.1, 0] S2x64x512.size (bInb n)).set := fun n => View.set_slice_whole cc0_scratch4 _
  simp only [bPts, e]
  rfl

/-- The own values, chunk by chunk. -/
theorem vb_chunks (q : PosShare TreeShare) (f : (cc0_scratch5 : Ref sig .tc).ty.Contents (Elt F)) :
    (((c : Thread nD τ).loc cc0_scratch5) ↦{q} f : sProp 𝕄) = iprop(bPts c 1 0 q f ∗ bPts c 1 1 q f ∗ bPts c 1 2 q f ∗ bPts c 1 3 q f) := by
  rw [Ring.pointsTo_blocks (ℓ := (c : Thread nD τ).loc cc0_scratch5) (fun n : Fin 4 => (Rect.unit (s := S2x256x512) ![0, 64 * n.1, 0] S2x64x512.size (bInb n)).set) bchunk_disjoint bchunk_cover f,
    bigSep_univ_eq_bigSepL [0, 1, 2, 3] (by decide) (by decide)]
  have e : ∀ n : Fin 4, (bCh 1 n).view.set = (Rect.unit (s := S2x256x512) ![0, 64 * n.1, 0] S2x64x512.size (bInb n)).set := fun n => View.set_slice_whole cc0_scratch5 _
  simp only [bPts, e]
  rfl

/-- The own blocks, whole. -/
def kvFull : sProp 𝕄 :=
  iprop(((c : Thread nD τ).loc cc0_scratch4 ↦{fullShare} kC m c) ∗ ((c : Thread nD τ).loc cc0_scratch5 ↦{fullShare} vC m c))

/-- Half stays, the other half goes to the sends. -/
theorem kv_split : kvFull m c ⊣⊢ iprop(kvPts m c ∗ four (OwnR m c 0) ∗ four (OwnR m c 1)) := by
  have hk := pointsTo_share (Ix := Unit) (Name := ℕ) (U := UU) (Lvl := ℕ) (ℓ := (c : Thread nD τ).loc cc0_scratch4) (I := Finset.univ) (f := kC m c) (PosShare.mem_left_op_right fullShare)
  have hv := pointsTo_share (Ix := Unit) (Name := ℕ) (U := UU) (Lvl := ℕ) (ℓ := (c : Thread nD τ).loc cc0_scratch5) (I := Finset.univ) (f := vC m c) (PosShare.mem_left_op_right fullShare)
  have ek := kb_chunks (F := F) c fullShare.right (kC m c)
  have ev := vb_chunks (F := F) c fullShare.right (vC m c)
  unfold kvFull kvPts four
  constructor
  · iintro ⟨Hk, Hv⟩
    ihave Hk2 := hk.1 $$ Hk
    ihave Hv2 := hv.1 $$ Hv
    icases Hk2 with ⟨Hkl, Hkr⟩
    icases Hv2 with ⟨Hvl, Hvr⟩
    ihave Hk4 := (Entails.of_eq ek) $$ Hkr
    ihave Hv4 := (Entails.of_eq ev) $$ Hvr
    icases Hk4 with ⟨K0, K1, K2, K3⟩
    icases Hv4 with ⟨V0, V1, V2, V3⟩
    isplitl [Hkl Hvl]; · isplitl [Hkl] <;> iassumption
    isplitl [K0 V0 K2 V2]
    · isplitl [K0]; · iexact K0
      isplitl [V0]; · iexact V0
      isplitl [K2]; · iexact K2
      iexact V2
    · isplitl [K1]; · iexact K1
      isplitl [V1]; · iexact V1
      isplitl [K3]; · iexact K3
      iexact V3
  · iintro ⟨⟨Hkl, Hvl⟩, ⟨K0, V0, K2, V2⟩, ⟨K1, V1, K3, V3⟩⟩
    isplitl [Hkl K0 K1 K2 K3]
    · iapply hk.2
      isplitl [Hkl]; · iexact Hkl
      iapply (Entails.of_eq ek.symm)
      isplitl [K0]; · iexact K0
      isplitl [K1]; · iexact K1
      isplitl [K2]; · iexact K2
      iexact K3
    · iapply hv.2
      isplitl [Hvl]; · iexact Hvl
      iapply (Entails.of_eq ev.symm)
      isplitl [V0]; · iexact V0
      isplitl [V1]; · iexact V1
      isplitl [V2]; · iexact V2
      iexact V3

/-! ## The places to write, from the two signals -/

theorem bar_dst : iprop(barPay (F := F) c true ∗ barPay (F := F) c false) ⊣⊢ hops (Dst (F := F) c) := by
  unfold barPay hops
  have e : ∀ t : Fin 7, iprop(barPart (F := F) c true t ∗ barPart (F := F) c false t) ⊣⊢ hop (Dst (F := F) c) t := fun t => by
    unfold barPart hop four
    rw [if_pos rfl, if_neg Bool.false_ne_true]
    constructor
    · iintro ⟨⟨⟨A, B⟩, ⟨A', B'⟩⟩, ⟨⟨C, D⟩, ⟨C', D'⟩⟩⟩
      isplitl [A B C D]
      · isplitl [A]; · iexact A
        isplitl [B]; · iexact B
        isplitl [C] <;> iassumption
      · isplitl [A']; · iexact A'
        isplitl [B']; · iexact B'
        isplitl [C'] <;> iassumption
    · iintro ⟨⟨A, B, C, D⟩, ⟨A', B', C', D'⟩⟩
      isplitl [A B A' B']
      · isplitl [A B]; · isplitl [A] <;> iassumption
        isplitl [A'] <;> iassumption
      · isplitl [C D]; · isplitl [C] <;> iassumption
        isplitl [C'] <;> iassumption
  constructor
  · exact (Entails.of_eq (bigSep_sep' Finset.univ _ _).symm).trans (bigSep_mono fun t _ => (e t).1)
  · exact (bigSep_mono fun t _ => (e t).2).trans (Entails.of_eq (bigSep_sep' Finset.univ _ _))

theorem snd_intro : iprop(hops (STok (F := F) c) ∗ hops (Dst (F := F) c)) ⊢ hops (Snd (F := F) c) :=
  (hops_sep _ _).2.trans (hops_mono fun t s k => by unfold Snd; exact BI.Entails.refl _)

/-! ## The whole body -/

/-- The staged blocks of the inputs. -/
def stPts : sProp 𝕄 := iprop(((c : Thread nD τ).loc cc0_stg0_0 ↦{fullShare} qst m c)
  ∗ ((c : Thread nD τ).loc cc0_stg1_0 ↦{fullShare} kst m c) ∗ ((c : Thread nD τ).loc cc0_stg2_0 ↦{fullShare} vst m c))

theorem remS_own : remS 7 = listL 0 0 (listL 0 1 (remS 6)) := remS_hopL 0

theorem wp_main (fk : (cc0_scratch4 : Ref sig .tc).ty.Contents (Elt F)) (fv : (cc0_scratch5 : Ref sig .tc).ty.Contents (Elt F))
    (fo : (cc0_stg3_0 : Ref sig .tc).ty.Contents (Elt F)) (fl : (cc0_scratch2 : Ref sig .tc).ty.Contents (Elt F))
    (fq : (cc0_scratch3 : Ref sig .tc).ty.Contents (Elt F)) :
    iprop(ctx m K ∗ Hi (F := F) c ∗ ow c (O₀ c) ∗ hops (Rcv (F := F) c) ∗ hops (STok (F := F) c) ∗ stPts m c
        ∗ ((c : Thread nD τ).loc cc0_stg3_0 ↦{fullShare} fo) ∗ ((c : Thread nD τ).loc cc0_scratch2 ↦{fullShare} fl)
        ∗ ((c : Thread nD τ).loc cc0_scratch3 ↦{fullShare} fq)
        ∗ ((c : Thread nD τ).loc cc0_scratch4 ↦{fullShare} fk) ∗ ((c : Thread nD τ).loc cc0_scratch5 ↦{fullShare} fv))
      ⊢ Wp c (mainP (F := F) c) fun _ => iprop(semVal (barCell c) 0 ∗ Fin_ m c ∗ kvPts m c ∗ stPts m c) := by
  unfold mainP stPts
  iintro ⟨#Hctx, Hhi, HO, HR, HT, ⟨Hq, Hk, Hv⟩, Hfo, Hfl, Hfq, Hfk, Hfv⟩
  iapply (wp_step (wp_hello m K c)) $$ [Hhi HO]
  · isplitr; · iexact Hctx
    isplitl [Hhi] <;> iassumption
  iintro %_ ⟨⟨HB1, HB2, Hbar⟩, HO⟩
  ihave HD := (bar_dst (F := F) c).1 $$ [HB1 HB2]
  · isplitl [HB1] <;> iassumption
  ihave HS := (snd_intro (F := F) c) $$ [HT HD]
  · isplitl [HT] <;> iassumption
  iapply (wp_step (wp_casts m c fk fv)) $$ [Hk Hv Hfk Hfv]
  · isplitl [Hk]; · iexact Hk
    isplitl [Hv]; · iexact Hv
    isplitl [Hfk] <;> iassumption
  iintro %_ ⟨Hk, Hv, Hkb, Hvb⟩
  ihave HKV := (kv_split m c).1 $$ [Hkb Hvb]
  · unfold kvFull; isplitl [Hkb] <;> iassumption
  icases HKV with ⟨Hkv, P0, P1⟩
  have eS := ge_peelH (F := F) (0 : Fin 7) (Snd (F := F) c)
  have eS' : hops (Snd (F := F) c) = _ := (show hops (Snd (F := F) c) = bigSep (geS 0) (hop (Snd (F := F) c)) by unfold hops; rw [geS_zero]).trans eS
  ihave HS := (Entails.of_eq eS') $$ HS
  icases HS with ⟨⟨S0, S1⟩, HS⟩
  ihave HO := (Entails.of_eq (congrArg (fun l => ow (F := F) c (owe c l)) remS_own)) $$ HO
  iapply (wp_step (wp_own4 m K c 0 (listL 0 1 (remS 6)))) $$ [P0 S0 HO]
  · isplitr; · iexact Hctx
    isplitl [P0]; · iexact P0
    isplitl [S0] <;> iassumption
  iintro %_ ⟨F0, HO⟩
  iapply (wp_step (wp_own4 m K c 1 (remS 6))) $$ [P1 S1 HO]
  · isplitr; · iexact Hctx
    isplitl [P1]; · iexact P1
    isplitl [S1] <;> iassumption
  iintro %_ ⟨F1, HO⟩
  iapply (wp_step (wp_inits m c fo fl fq)) $$ [Hq Hfo Hfl Hfq]
  · isplitl [Hq]; · iexact Hq
    isplitl [Hfo]; · iexact Hfo
    isplitl [Hfl] <;> iassumption
  iintro %_ ⟨Hq, Ho, Hqs⟩
  iapply (wp_seqP (c := c) (fun x => headOwn x.1 x.2) _ (ownStep m c) (fun st => iprop(kvPts m c ∗ qsPts m c ∗ olPts c st)) _ (wp_headOwn m c) parts
    (k0_pay87 (F := F), k0_pay87 (F := F))) $$ [Hkv Hqs Ho]
  · isplitl [Hkv]; · iexact Hkv
    isplitl [Hqs] <;> iassumption
  iintro ⟨Hkv, Hqs, Ho⟩
  iapply (Scf.wp_for_bind frame (wpE (defs₀ (F := F)) 𝒱₀ (c : Thread nD τ) none) Set.univ k0_t1_loop.lb k0_t1_loop.ub k0_t1_loop.st k0_t1_ok ⟨⟩
    (fun t _ => trip c ⟨t.1, t1_lt t⟩) (fun n _ => inv m K c n) (fun t _ => wp_trip m K c ⟨t.1, t1_lt t⟩)) $$ [HO HR HS F0 F1 Hqs Ho]
  · unfold inv
    isplitr; · iexact Hctx
    isplitl [HO]; · iexact HO
    isplitl [HR]; · unfold hops; rw [geS_zero]; iexact HR
    isplitl [HS]; · iexact HS
    isplitl [F0 F1]
    · have eF := lt_peel (F := F) (0 : Fin 7) (hop (Fly (F := F) c))
      rw [show bigSep (ltS (0 + 1)) (hop (Fly (F := F) c)) = _ from eF]
      isplitl [F0 F1]
      · unfold hop; isplitl [F0] <;> iassumption
      · rw [show ltS (0 : Fin 7).1 = ∅ from ltS_zero, bigSep_empty]; iempintro
    isplitr; · rw [ltS_zero, bigSep_empty]; iempintro
    isplitl [Hqs]; · iexact Hqs
    iexact Ho
  iintro %_ HI
  iapply (wp_wand_r frame (wpE (defs₀ (F := F)) 𝒱₀ (c : Thread nD τ) none) Set.univ (Q := fun _ => Fin_ m c))
  isplitl [HI]
  · iapply (wp_tail m K c); iexact HI
  iintro %_ HF
  isplitl [Hbar]; · iexact Hbar
  isplitl [HF]; · iexact HF
  isplitl [Hkv]; · iexact Hkv
  isplitl [Hq]; · iexact Hq
  isplitl [Hk] <;> iassumption

end Cert.Proof.Ker
-- ==== Proof.Gather.lean ====
/- The gathered buffers of a device, chunk by chunk: at its entry, and joined again at its end. -/
module

public import proofs.«01_k».proof.Proof.Body
public import Idealize.ShloMosaic.Lib.Ring

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The chunks of a gathered buffer: the four of the own block, and four for every hop. -/
abbrev Sl := (Fin 2 × Fin 2) ⊕ (Fin 7 × (Fin 2 × Fin 2))

def slotIx (c : Dev nD) : Sl → Fin 32
  | .inl (d, s) => chk (if d = 0 then 0 else 2) c 0 s
  | .inr (t, (d, s)) => chk (if d = 0 then 0 else 2) c (t.1 + 1) s

theorem slotIx_inj : ∀ c : Dev nD, Function.Injective (slotIx c) := by
  intro c a b
  revert c a b
  decide +kernel

def slotE (c : Dev nD) : Sl ≃ Fin 32 :=
  Equiv.ofBijective (slotIx c) ((Fintype.bijective_iff_injective_and_card _).mpr ⟨slotIx_inj c, by decide⟩)

/-- A chunk of a gathered buffer, at any contents. -/
abbrev anyG (k : Fin 4) (n : Fin 32) : sProp 𝕄 := iprop(∃ f, gPts (F := F) c k n fullShare f)

/-- The chunk that transfer `(t, s, k)` brings. -/
def Slot (t : Fin 7) (s : Fin 2) (k : Fin 4) : sProp 𝕄 := anyG (F := F) c k (chk k c (t.1 + 1) s)

/-- The chunks of the own block. -/
def OwnG (k : Fin 4) : sProp 𝕄 := bigSep Finset.univ fun x : Fin 2 × Fin 2 => anyG (F := F) c k (slotIx c (.inl x))

/-- The chunks of one buffer that hop `t` brings. -/
def hopG (k : Fin 4) (t : Fin 7) : sProp 𝕄 :=
  iprop((anyG (F := F) c k (chk 0 c (t.1 + 1) 0) ∗ anyG (F := F) c k (chk 0 c (t.1 + 1) 1))
    ∗ (anyG (F := F) c k (chk 2 c (t.1 + 1) 0) ∗ anyG (F := F) c k (chk 2 c (t.1 + 1) 1)))

theorem slots_eq (k : Fin 4) :
    bigSep Finset.univ (fun n => anyG (F := F) c k n) = iprop(OwnG (F := F) c k ∗ bigSep Finset.univ (hopG (F := F) c k)) := by
  rw [bigSep_univ_equiv (slotE c), bigSep_univ_sum]
  refine congrArg₂ BIBase.sep rfl ?_
  rw [bigSep_univ_prod]
  refine bigSep_congr fun t _ => ?_
  rw [bigSep_univ_prod, bigSep_univ_eq_bigSepL [0, 1] (by decide) (by decide), bigSepL_cons_cons, bigSepL_singleton,
    bigSep_univ_eq_bigSepL [0, 1] (by decide) (by decide), bigSep_univ_eq_bigSepL [0, 1] (by decide) (by decide)]
  rfl

theorem chunk_disjoint (n n' : Fin 32) (hn : n ≠ n') :
    Disjoint (Rect.unit (s := S2x2048x512) ![0, 64 * n.1, 0] S2x64x512.size (gInb n)).set (Rect.unit (s := S2x2048x512) ![0, 64 * n'.1, 0] S2x64x512.size (gInb n')).set :=
  Finset.disjoint_left.mpr fun i hi hi' => hn (Fin.ext (((mem_chunk n i).mp hi).symm.trans ((mem_chunk n' i).mp hi')))

theorem chunk_cover : (Finset.univ : Finset (Fin 32)).biUnion (fun n => (Rect.unit (s := S2x2048x512) ![0, 64 * n.1, 0] S2x64x512.size (gInb n)).set) = Finset.univ :=
  Finset.eq_univ_of_forall fun i => Finset.mem_biUnion.mpr ⟨⟨(i 1).1 / 64, by
    have : (i 1).1 < 2048 := (i 1).2; omega⟩, Finset.mem_univ _, (mem_chunk _ i).mpr rfl⟩

theorem kg_chunks : iprop(∃ f : Buf (Elt F) ((c : Thread nD τ).loc cc0_scratch0), ((c : Thread nD τ).loc cc0_scratch0) ↦{fullShare} f)
    ⊣⊢ bigSep Finset.univ (fun n => anyG (F := F) c 0 n) := by
  have e : ∀ n : Fin 32, (gCh 0 n).view.set = (Rect.unit (s := S2x2048x512) ![0, 64 * n.1, 0] S2x64x512.size (gInb n)).set := fun n => View.set_slice_whole cc0_scratch0 _
  constructor
  · have h : ∀ f : Buf (Elt F) ((c : Thread nD τ).loc cc0_scratch0), (((c : Thread nD τ).loc cc0_scratch0) ↦{fullShare} f : sProp 𝕄)
        ⊢ bigSep Finset.univ (fun n => anyG (F := F) c 0 n) := fun f =>
      (Entails.of_eq (Ring.pointsTo_blocks (ℓ := (c : Thread nD τ).loc cc0_scratch0)
        (fun n : Fin 32 => (Rect.unit (s := S2x2048x512) ![0, 64 * n.1, 0] S2x64x512.size (gInb n)).set) chunk_disjoint chunk_cover f)).trans
      (bigSep_mono fun n _ => by
        unfold anyG gPts
        rw [e]
        exact BIClass.exists_intro (PROP := sProp 𝕄) (Φ := fun f => _) f)
    iintro ⟨%f, H⟩
    iapply (h f); iexact H
  · refine BI.Entails.trans ?_ (Ring.pointsTo_blocks_join_exists (ℓ := (c : Thread nD τ).loc cc0_scratch0)
      (fun n : Fin 32 => (Rect.unit (s := S2x2048x512) ![0, 64 * n.1, 0] S2x64x512.size (gInb n)).set) chunk_disjoint chunk_cover default)
    refine bigSep_mono fun n _ => ?_
    unfold anyG gPts
    rw [e]
    exact BI.Entails.refl _

theorem vg_chunks : iprop(∃ f : Buf (Elt F) ((c : Thread nD τ).loc cc0_scratch1), ((c : Thread nD τ).loc cc0_scratch1) ↦{fullShare} f)
    ⊣⊢ bigSep Finset.univ (fun n => anyG (F := F) c 1 n) := by
  have e : ∀ n : Fin 32, (gCh 1 n).view.set = (Rect.unit (s := S2x2048x512) ![0, 64 * n.1, 0] S2x64x512.size (gInb n)).set := fun n => View.set_slice_whole cc0_scratch1 _
  constructor
  · have h : ∀ f : Buf (Elt F) ((c : Thread nD τ).loc cc0_scratch1), (((c : Thread nD τ).loc cc0_scratch1) ↦{fullShare} f : sProp 𝕄)
        ⊢ bigSep Finset.univ (fun n => anyG (F := F) c 1 n) := fun f =>
      (Entails.of_eq (Ring.pointsTo_blocks (ℓ := (c : Thread nD τ).loc cc0_scratch1)
        (fun n : Fin 32 => (Rect.unit (s := S2x2048x512) ![0, 64 * n.1, 0] S2x64x512.size (gInb n)).set) chunk_disjoint chunk_cover f)).trans
      (bigSep_mono fun n _ => by
        unfold anyG gPts
        rw [e]
        exact BIClass.exists_intro (PROP := sProp 𝕄) (Φ := fun f => _) f)
    iintro ⟨%f, H⟩
    iapply (h f); iexact H
  · refine BI.Entails.trans ?_ (Ring.pointsTo_blocks_join_exists (ℓ := (c : Thread nD τ).loc cc0_scratch1)
      (fun n : Fin 32 => (Rect.unit (s := S2x2048x512) ![0, 64 * n.1, 0] S2x64x512.size (gInb n)).set) chunk_disjoint chunk_cover default)
    refine bigSep_mono fun n _ => ?_
    unfold anyG gPts
    rw [e]
    exact BI.Entails.refl _

/-- The chunks of both buffers that hop `t` brings. -/
theorem hopG_slot (t : Fin 7) : iprop(hopG (F := F) c 0 t ∗ hopG (F := F) c 1 t) ⊣⊢ hop (Slot (F := F) c) t := by
  unfold hopG hop four Slot
  constructor
  · iintro ⟨⟨⟨A0, A1⟩, ⟨C0, C1⟩⟩, ⟨⟨B0, B1⟩, ⟨D0, D1⟩⟩⟩
    isplitl [A0 B0 C0 D0]
    · isplitl [A0]; · iexact A0
      isplitl [B0]; · iexact B0
      isplitl [C0]; · iexact C0
      iexact D0
    · isplitl [A1]; · iexact A1
      isplitl [B1]; · iexact B1
      isplitl [C1]; · iexact C1
      iexact D1
  · iintro ⟨⟨A0, B0, C0, D0⟩, ⟨A1, B1, C1, D1⟩⟩
    isplitl [A0 A1 C0 C1]
    · isplitl [A0 A1]
      · isplitl [A0]; · iexact A0
        iexact A1
      · isplitl [C0]; · iexact C0
        iexact C1
    · isplitl [B0 B1]
      · isplitl [B0]; · iexact B0
        iexact B1
      · isplitl [D0]; · iexact D0
        iexact D1

/-- The two gathered buffers, at any contents. -/
def gAny : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f))

theorem gather_slots : gAny (F := F) c ⊣⊢ iprop((OwnG (F := F) c 0 ∗ OwnG (F := F) c 1) ∗ hops (Slot (F := F) c)) := by
  unfold gAny hops
  constructor
  · iintro ⟨Hk, Hv⟩
    ihave Hk := (kg_chunks (F := F) c).1 $$ Hk
    ihave Hv := (vg_chunks (F := F) c).1 $$ Hv
    ihave Hk := (Entails.of_eq (slots_eq (F := F) c 0)) $$ Hk
    ihave Hv := (Entails.of_eq (slots_eq (F := F) c 1)) $$ Hv
    icases Hk with ⟨Ok, Hk⟩
    icases Hv with ⟨Ov, Hv⟩
    isplitl [Ok Ov]; · isplitl [Ok] <;> iassumption
    iapply ((Entails.of_eq (bigSep_sep' Finset.univ (hopG (F := F) c 0) (hopG (F := F) c 1)).symm).trans (bigSep_mono fun t _ => (hopG_slot (F := F) c t).1))
    isplitl [Hk] <;> iassumption
  · have h : (bigSep Finset.univ (hop (Slot (F := F) c)) : sProp 𝕄) ⊢ iprop(bigSep Finset.univ (hopG (F := F) c 0) ∗ bigSep Finset.univ (hopG (F := F) c 1)) :=
      (bigSep_mono fun t _ => (hopG_slot (F := F) c t).2).trans (Entails.of_eq (bigSep_sep' Finset.univ (hopG (F := F) c 0) (hopG (F := F) c 1)))
    iintro ⟨⟨Ok, Ov⟩, H⟩
    ihave H := h $$ H
    icases H with ⟨Hk, Hv⟩
    isplitl [Ok Hk]
    · iapply (kg_chunks (F := F) c).2
      iapply (Entails.of_eq (slots_eq (F := F) c 0).symm)
      isplitl [Ok] <;> iassumption
    · iapply (vg_chunks (F := F) c).2
      iapply (Entails.of_eq (slots_eq (F := F) c 1).symm)
      isplitl [Ov] <;> iassumption

/-- What a device brings at a hop is what its neighbour rewrites. -/
theorem slot_dst (t : Fin 7) (s : Fin 2) (k : Fin 4) : Slot (F := F) c t s k = Dst (F := F) (frm k c) t s k := by
  have h := chk_peer k (frm k c) t s
  rw [peer_frm] at h
  unfold Slot Dst anyG
  rw [peer_frm, h]

theorem slot_part (t : Fin 7) : hop (Slot (F := F) c) t ⊢ iprop(barPart (F := F) (lft c) true t ∗ barPart (F := F) (rgt c) false t) := by
  unfold barPart hop four
  rw [if_pos rfl, if_neg Bool.false_ne_true]
  simp only [slot_dst]
  iintro ⟨⟨A, B, C, D⟩, ⟨A', B', C', D'⟩⟩
  isplitl [A B A' B']
  · isplitl [A B]
    · isplitl [A]; · iexact A
      iexact B
    · isplitl [A']; · iexact A'
      iexact B'
  · isplitl [C D]
    · isplitl [C]; · iexact C
      iexact D
    · isplitl [C']; · iexact C'
      iexact D'

theorem slot_bar : hops (Slot (F := F) c) ⊢ iprop(barPay (F := F) (lft c) true ∗ barPay (F := F) (rgt c) false) := by
  unfold barPay hops
  exact (bigSep_mono fun t _ => slot_part (F := F) c t).trans (Entails.of_eq (bigSep_sep' Finset.univ _ _))

/-! ## The end -/

/-- The right halves of the chunks that a hop brought. -/
abbrev RtP (t : Fin 7) (s : Fin 2) (k : Fin 4) : sProp 𝕄 := gPts c k (chk k c (t.1 + 1) s) fullShare.right (GC m k)
abbrev SentV (t : Fin 7) (s : Fin 2) (k : Fin 4) : sProp 𝕄 := semVal (dcell c (sendS k t s)) 0

theorem got_parts : hops (Got m c) ⊢ iprop(hops (GotV (F := F) c) ∗ hops (GotP m c)) :=
  (hops_mono fun t s k => by unfold Got; exact BI.Entails.refl _).trans (hops_sep _ _).1

theorem sent_parts : hops (SDone m c) ⊢ iprop(hops (SentV (F := F) c) ∗ hops (sendPay m c)) :=
  (hops_mono fun t s k => by unfold SDone; exact BI.Entails.refl _).trans (hops_sep _ _).1

theorem hops_list (Φ : Fin 7 → Fin 2 → Fin 4 → sProp 𝕄) :
    hops Φ = iprop(hop Φ 0 ∗ hop Φ 1 ∗ hop Φ 2 ∗ hop Φ 3 ∗ hop Φ 4 ∗ hop Φ 5 ∗ hop Φ 6) := by
  unfold hops; rw [bigSep_univ_eq_bigSepL [0, 1, 2, 3, 4, 5, 6] (by decide) (by decide)]; rfl

theorem sent_next (t : Fin 6) : hop (sendPay m c) t.succ ⊢ hop (RtP m c) t.castSucc := by
  have e : ∀ s k, sendPay m c t.succ s k ⊢ RtP m c t.castSucc s k := fun s k => by
    unfold sendPay; rw [if_neg (Fin.succ_ne_zero t)]; exact BI.Entails.refl _
  unfold hop
  exact BIClass.sep_mono (four_mono (e 0)) (four_mono (e 1))

theorem sent_own : hop (sendPay m c) 0 ⊢ iprop(four (OwnR m c 0) ∗ four (OwnR m c 1)) := by
  have e : ∀ s k, sendPay m c 0 s k ⊢ OwnR m c s k := fun s k => by
    unfold sendPay OwnR; rw [if_pos rfl]
  unfold hop
  exact BIClass.sep_mono (four_mono (e 0)) (four_mono (e 1))

/-- What the sends gave back, and the last arrivals: the right halves of all, and of the own blocks. -/
theorem right_all : iprop(hops (sendPay m c) ∗ hop (Rt m c) 6) ⊢ iprop((four (OwnR m c 0) ∗ four (OwnR m c 1)) ∗ hops (RtP m c)) := by
  rw [hops_list, hops_list]
  iintro ⟨⟨H0, H1, H2, H3, H4, H5, H6⟩, H7⟩
  isplitl [H0]; · iapply (sent_own m c); iexact H0
  isplitl [H1]; · iapply (sent_next m c 0); iexact H1
  isplitl [H2]; · iapply (sent_next m c 1); iexact H2
  isplitl [H3]; · iapply (sent_next m c 2); iexact H3
  isplitl [H4]; · iapply (sent_next m c 3); iexact H4
  isplitl [H5]; · iapply (sent_next m c 4); iexact H5
  isplitl [H6]; · iapply (sent_next m c 5); iexact H6
  iapply (hop_mono (fun t s k => (by unfold Rt; exact BI.Entails.refl _ : Rt m c t s k ⊢ RtP m c t s k)) 6); iexact H7

theorem slots_back : iprop(hops (GotP m c) ∗ hops (RtP m c)) ⊢ hops (Slot (F := F) c) :=
  (hops_sep _ _).2.trans (hops_mono fun t s k => by
    unfold Slot anyG
    iintro H
    iexists (GC m k)
    iapply (gPts_halves c k _ _).2; iexact H)

end Cert.Proof.Ker
-- ==== Proof.Start.lean ====
/- The start of the run: the cells and tokens are made, dealt to the devices, and the credit of the run with them. -/
module

public import proofs.«01_k».proof.Proof.Gather
public import Idealize.ShloMosaic.Lib.Ring

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## Families over the transfers -/

theorem hops_X (Φ : Fin 7 → Fin 2 → Fin 4 → sProp 𝕄) : bigSep Finset.univ (fun x : X => Φ x.1 x.2.1 x.2.2) = hops Φ := by
  unfold hops
  rw [bigSep_univ_prod]
  refine bigSep_congr fun t _ => ?_
  rw [bigSep_univ_prod, bigSep_univ_eq_bigSepL [0, 1] (by decide) (by decide), bigSepL_cons_cons, bigSepL_singleton,
    bigSep_univ_eq_bigSepL [0, 1, 2, 3] (by decide) (by decide), bigSep_univ_eq_bigSepL [0, 1, 2, 3] (by decide) (by decide)]
  rfl

theorem bigSep_dir (Φ : Bool × X → sProp 𝕄) : bigSep Finset.univ Φ
    = iprop(hops (fun t s k => Φ (true, t, s, k)) ∗ hops (fun t s k => Φ (false, t, s, k))) := by
  rw [bigSep_univ_prod, bigSep_univ_eq_bigSepL [true, false] (by decide) (by decide), bigSepL_cons_cons, bigSepL_singleton]
  exact congrArg₂ BIBase.sep (hops_X fun t s k => Φ (true, t, s, k)) (hops_X fun t s k => Φ (false, t, s, k))

theorem bigSep_one (Φ : Unit → sProp 𝕄) : bigSep Finset.univ Φ = Φ () := by
  rw [bigSep_univ_eq_bigSepL [()] (by decide) (by decide), bigSepL_singleton]

theorem bigSep_CI (Φ : CI → sProp 𝕄) : bigSep Finset.univ Φ
    = iprop(Φ (.inl ()) ∗ hops (fun t s k => Φ (.inr (true, t, s, k))) ∗ hops (fun t s k => Φ (.inr (false, t, s, k)))) := by
  rw [bigSep_univ_sum, bigSep_one, bigSep_dir]; rfl

/-! ## The cells -/

abbrev osem : Bool × X → SemLoc sig := fun i => .dma (xsem i)

theorem xsem_ge (i : Bool × X) : 4 ≤ (xsem i).1 := by
  unfold xsem; split
  · exact cs_ge _ _ _
  · exact cs_ge _ _ _

theorem xsem_scoped : ∀ q : DmaSem sig, (SemLoc.dma q : SemLoc sig).isScoped .tc = true := by decide +kernel

theorem stage_sem_lt : ∀ w s, ((cfg0.spec w).sem s).1 < 4 := by decide +kernel

theorem ownSemFacts : Pipeline.OwnSemFacts cfg0.spec osem where
  isScoped i := xsem_scoped _
  inj i j h := xsem_injective (SemLoc.dma.inj h)
  disj i w s h := by
    have h1 := xsem_ge i
    have h2 := stage_sem_lt w s
    rw [SemLoc.dma.inj h] at h1
    exact absurd (lt_of_lt_of_le h2 h1) (lt_irrefl _)

theorem csem_injective : Function.Injective csem := by
  rintro (u | i) (u' | j) h
  · rfl
  · exact absurd h (by rintro ⟨⟩)
  · exact absurd h (by rintro ⟨⟩)
  · exact congrArg Sum.inr (xsem_injective (SemLoc.dma.inj h))

theorem dev_of_tc {a b : Dev nD} (h : (a : Thread nD τ) = (b : Thread nD τ)) : a = b := congrArg (fun t : Thread nD τ => t.1) h

theorem kcell_injective : Function.Injective (kcell : Dev nD × CI → GSem nD τ sig) := by
  rintro ⟨c, i⟩ ⟨c', i'⟩ h
  rw [Prod.mk.injEq] at h
  exact Prod.ext (dev_of_tc h.1) (csem_injective h.2)

def allCells : Finset (GSem nD τ sig) := Finset.univ.map ⟨kcell, kcell_injective⟩

/-- The duties of a device's own cells: two of its barrier cell, one of every other. -/
abbrev DI : Type := Bool ⊕ (Bool × X)
abbrev tokOf (p : Dev nD × DI) : GSem nD τ sig × ℕ × Bool :=
  Sum.elim (fun d : Bool => (barCell p.1, 0, d)) (fun i => (dcell p.1 (xsem i), 0, false)) p.2

theorem tokOf_injective : Function.Injective (tokOf : Dev nD × DI → GSem nD τ sig × ℕ × Bool) := by
  rintro ⟨c, d | i⟩ ⟨c', d' | i'⟩ h
  · have h1 := congrArg (fun x => x.1.1) h
    have h2 := congrArg (fun x => x.2.2) h
    exact Prod.ext (dev_of_tc h1) (congrArg Sum.inl h2)
  · exact absurd (congrArg (fun x => x.1.2) h) (by rintro ⟨⟩)
  · exact absurd (congrArg (fun x => x.1.2) h) (by rintro ⟨⟩)
  · have h1 := congrArg (fun x => x.1.1) h
    have h2 := congrArg (fun x => x.1.2) h
    exact Prod.ext (dev_of_tc h1) (congrArg Sum.inr (xsem_injective (SemLoc.dma.inj h2)))

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-! ## What is made, and what every device gets of it -/

def atAll : sProp 𝕄 := bigSep Finset.univ fun i : CI => atPos ER (kcell (c, i)) 0 ∅ 0
def reAll : sProp 𝕄 := bigSep Finset.univ fun i : CI => reached ER (kcell (c, i)) 0
/-- The tokens of the duties of the device's own cells, -/
def ownToks : sProp 𝕄 := bigSep Finset.univ fun i : DI => dutyTok ER (tokOf (c, i)).1 (tokOf (c, i)).2.1 (tokOf (c, i)).2.2
/-- and of the duties that the device pays. -/
def payToks : sProp 𝕄 :=
  iprop((dutyTok ER (barCell (lft c)) 0 true ∗ dutyTok ER (barCell (rgt c)) 0 false)
    ∗ (bigSep Finset.univ fun x : X => dutyTok ER (dcell (peer x.2.2 c) (xsem (true, x))) 0 false)
    ∗ (bigSep Finset.univ fun x : X => dutyTok ER (dcell c (xsem (false, x))) 0 false))

/-- What is made for a device. -/
def Gv : sProp 𝕄 :=
  iprop((bigSep Finset.univ fun i : CI => roundState ER (rd m) (kcell (c, i)) 0) ∗ (atAll (F := F) c ∗ reAll (F := F) c) ∗ ownToks (F := F) c)

/-- What it holds once the cells are shared. -/
def recs : sProp 𝕄 :=
  iprop((bigSep Finset.univ fun ci : Dev nD × CI => cellInv ER (rd m) (K ci) (kcell ci))
    ∗ bigSep Finset.univ fun ci : Dev nD × CI => reached ER (kcell ci) 0)
instance recs_persistent : BI.Persistent (recs (F := F) m K) := by unfold recs; infer_instance
def Gw : sProp 𝕄 := iprop(∃ K, recs m K ∗ atAll (F := F) c ∗ payToks (F := F) c)

theorem fund_all : BI.own (ER (initOf allCells allToks)) ⊢ (|==> bigSep Finset.univ (Gv m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gv atAll reAll
  simp only [bigSep_sep']
  isplitl [Hst]; · iexact Hst
  isplitl [Hat Hr]
  · isplitl [Hat] <;> iassumption
  iexact Htok

theorem unscoped_eq : (unscopedSems0 c : sProp 𝕄) = semVal (barCell c) 0 := by
  unfold unscopedSems0; rw [bigSep_eq_bigSepL_of_eq [SemLoc.reg barS] (by decide +kernel) (by decide), bigSepL_singleton]

theorem sems_all : iprop(Pipeline.ownSems0 (Ix := Unit) (Name := ℕ) (U := UU) (Lvl := ℕ) (Val := Elt F) (τ := τ) osem c ∗ unscopedSems0 c)
    ⊢ (bigSep Finset.univ fun i : CI => semVal (kcell (c, i)) 0 : sProp 𝕄) := by
  rw [unscoped_eq, bigSep_univ_sum, bigSep_one]
  unfold Pipeline.ownSems0
  show iprop(_ ∗ _) ⊢ iprop(_ ∗ _)
  iintro ⟨Ho, Hb⟩
  isplitl [Hb]; · iexact Hb
  iexact Ho

theorem make_cells : iprop((bigSep Finset.univ fun i : CI => semVal (kcell (c, i)) 0) ∗ bigSep Finset.univ fun i : CI => roundState ER (rd m) (kcell (c, i)) 0)
    ⊢ (|={Set.univ}=> bigSep Finset.univ fun i : CI => iprop(∃ κ : ℕ, cellInv ER (rd m) κ (kcell (c, i))) : sProp 𝕄) := by
  rw [← bigSep_sep']
  exact (bigSep_mono fun i _ => (Rounds.body_intro ER (rd m) (kcell (c, i))).trans inv_alloc).trans (bigSep_fupd _ _)

theorem dev_alloc :
    iprop(Pipeline.ownSems0 (Ix := Unit) (Name := ℕ) (U := UU) (Lvl := ℕ) (Val := Elt F) (τ := τ) osem c ∗ unscopedSems0 c ∗ Gv m c)
      ⊢ |={Set.univ}=> iprop((bigSep Finset.univ fun i : CI => iprop(∃ κ : ℕ, cellInv ER (rd m) κ (kcell (c, i))))
          ∗ (atAll (F := F) c ∗ reAll (F := F) c) ∗ ownToks (F := F) c) := by
  unfold Gv
  iintro ⟨Ho, Hu, Hst, Hat, Htok⟩
  ihave Hv := (sems_all (F := F) c) $$ [Ho Hu]
  · isplitl [Ho] <;> iassumption
  imod (make_cells m c) $$ [Hv Hst] with Hinv
  · isplitl [Hv] <;> iassumption
  imodintro
  isplitl [Hinv]; · iexact Hinv
  isplitl [Hat] <;> iassumption

/-- A transfer's tokens move one step along its ring. -/
def stepX : Dev nD × X ≃ Dev nD × X where
  toFun p := (peer p.2.2.2 p.1, p.2)
  invFun p := (frm p.2.2.2 p.1, p.2)
  left_inv p := Prod.ext (frm_peer _ _) rfl
  right_inv p := Prod.ext (peer_frm _ _) rfl

theorem toks_step (Φ : Dev nD → X → sProp 𝕄) :
    (bigSep Finset.univ fun c : Dev nD => bigSep Finset.univ fun x : X => Φ c x)
      = bigSep Finset.univ fun c : Dev nD => bigSep Finset.univ fun x : X => Φ (peer x.2.2 c) x := by
  rw [← bigSep_univ_prod (fun p : Dev nD × X => Φ p.1 p.2), bigSep_univ_equiv stepX, bigSep_univ_prod]
  rfl

theorem ownToks_eq : ownToks (F := F) c = iprop((dutyTok ER (barCell c) 0 true ∗ dutyTok ER (barCell c) 0 false)
    ∗ (bigSep Finset.univ fun x : X => dutyTok ER (dcell c (xsem (true, x))) 0 false)
    ∗ (bigSep Finset.univ fun x : X => dutyTok ER (dcell c (xsem (false, x))) 0 false)) := by
  unfold ownToks
  rw [bigSep_univ_sum, bigSep_univ_prod, bigSep_univ_eq_bigSepL [true, false] (by decide) (by decide), bigSepL_cons_cons, bigSepL_singleton,
    bigSep_univ_eq_bigSepL [true, false] (by decide) (by decide), bigSepL_cons_cons, bigSepL_singleton]
  rfl

theorem toks_deal : (bigSep Finset.univ fun c : Dev nD => (ownToks c : sProp 𝕄)) ⊢ bigSep Finset.univ fun c : Dev nD => payToks c := by
  unfold payToks
  simp only [ownToks_eq]
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    toks_step (fun c x => (dutyTok ER (dcell c (xsem (true, x))) 0 false : sProp 𝕄))]
  iintro ⟨⟨H1, H2⟩, H3, H4⟩
  isplitl [H1 H2]
  · isplitl [H1]; · iexact H1
    iexact H2
  isplitl [H3]; · iexact H3
  iexact H4

theorem deal_one : iprop(recs m K ∗ (atAll (F := F) c ∗ payToks (F := F) c)) ⊢ Gw m c := by
  unfold Gw
  iintro ⟨#HR, Ha, Ht⟩
  iexists K
  isplitr; · iexact HR
  isplitl [Ha] <;> iassumption

theorem deal_all : iprop(recs m K ∗ bigSep Finset.univ fun c : Dev nD => iprop(atAll (F := F) c ∗ payToks (F := F) c)) ⊢ bigSep Finset.univ (Gw m) :=
  (BIClass.sep_mono (BI.bigSep_of_persistent Finset.univ (recs m K)) (BI.Entails.refl _)).trans
    ((Entails.of_eq (bigSep_sep' Finset.univ _ _).symm).trans (bigSep_mono fun c _ => deal_one m K c))

theorem share_all :
    (bigSep Finset.univ fun c : Dev nD => iprop((bigSep Finset.univ fun i : CI => iprop(∃ κ : ℕ, cellInv ER (rd m) κ (kcell (c, i))))
          ∗ (atAll (F := F) c ∗ reAll (F := F) c) ∗ ownToks (F := F) c) : sProp 𝕄)
      ⊢ bigSep Finset.univ (Gw m) := by
  have eR : (bigSep Finset.univ fun c : Dev nD => (reAll c : sProp 𝕄)) = bigSep Finset.univ fun ci : Dev nD × CI => reached ER (kcell ci) 0 := by
    unfold reAll; rw [bigSep_univ_prod]
  rw [bigSep_sep', bigSep_sep', bigSep_sep', ← bigSep_univ_prod (fun ci : Dev nD × CI => iprop(∃ κ : ℕ, cellInv ER (rd m) κ (kcell ci))), eR]
  iintro ⟨HI, ⟨Hat, #HR⟩, Htok⟩
  ihave HK := (BI.bigSep_exists_pi Finset.univ (fun (ci : Dev nD × CI) (κ : ℕ) => (cellInv ER (rd m) κ (kcell ci) : sProp 𝕄))) $$ HI
  icases HK with ⟨%K, #HI⟩
  ihave Htk := (toks_deal (F := F)) $$ Htok
  iapply (deal_all m K)
  isplitr
  · unfold recs; isplitl; · iexact HI
    iexact HR
  · iapply (Entails.of_eq (bigSep_sep' Finset.univ (fun c : Dev nD => (atAll c : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ Gv m c) : sProp 𝕄)
    ⊢ |={Set.univ}=> bigSep Finset.univ (Gw m) :=
  ((bigSep_mono fun c _ => dev_alloc m c).trans (bigSep_fupd _ _)).trans (BI.fupd_mono (share_all m))

/-! ## The credit of the run -/

theorem bar_eq_iff {a b : Dev nD} : barCell a = barCell b ↔ a = b :=
  ⟨fun h => dev_of_tc (congrArg Prod.fst h), fun h => h ▸ rfl⟩

theorem owe_bar (d : Dev nD) (l : List X) : owe d l (barCell c) () = 0 := by
  by_contra h
  obtain ⟨x, -, he⟩ := owe_pos (Nat.pos_of_ne_zero h)
  exact absurd (congrArg Prod.snd he) (by rintro ⟨⟩)

theorem owed_bar (d : Dev nD) : O₀ d (barCell c) () = (if d = lft c then 1 else 0) + (if d = rgt c then 1 else 0) := by
  unfold O₀ O₁
  rw [Pi.add_apply, Finsupp.add_apply, Pi.add_apply, Finsupp.add_apply, owe_bar, tallyAt_apply, tallyAt_apply, Nat.zero_add]
  congr 1
  · by_cases h : d = lft c
    · subst h; rw [rgt_lft, if_pos ⟨rfl, rfl⟩, if_pos rfl]
    · rw [if_neg (fun ⟨h1, _⟩ => h (by rw [bar_eq_iff.mp h1, lft_rgt])), if_neg h]
  · by_cases h : d = rgt c
    · subst h; rw [lft_rgt, if_pos ⟨rfl, rfl⟩, if_pos rfl]
    · rw [if_neg (fun ⟨h1, _⟩ => h (by rw [bar_eq_iff.mp h1, rgt_lft])), if_neg h]

theorem recv_eq {a b : Dev nD} {x y : X} (h : dcell a (recvS x.2.2 x.1 x.2.1) = dcell b (recvS y.2.2 y.1 y.2.1)) : a = b ∧ x = y := by
  refine ⟨dev_of_tc (congrArg Prod.fst h), ?_⟩
  have h2 := SemLoc.dma.inj (congrArg Prod.snd h)
  exact congrArg Prod.snd (xsem_injective (show xsem (true, x) = xsem (true, y) from h2))

/-- A transfer is owed once, by the neighbour that makes it. -/
theorem owe_recv (d : Dev nD) (y : X) : ∀ l : List X, l.Nodup →
    owe d l (dcell c (recvS y.2.2 y.1 y.2.1)) () = if y ∈ l ∧ peer y.2.2 d = c then N else 0
  | [], _ => by rw [if_neg fun h => List.not_mem_nil h.1]; rfl
  | x :: l, hl => by
    unfold owe tal
    rw [Pi.add_apply, Finsupp.add_apply, tallyAt_apply, owe_recv d y l (List.nodup_cons.mp hl).2]
    by_cases hx : dcell c (recvS y.2.2 y.1 y.2.1) = dcell (peer x.2.2 d) (recvS x.2.2 x.1 x.2.1)
    · obtain ⟨h1, rfl⟩ := recv_eq hx
      rw [if_neg fun h => (List.nodup_cons.mp hl).1 h.1, if_pos ⟨hx, rfl⟩, if_pos ⟨List.mem_cons_self, h1.symm⟩, Nat.zero_add]
    · rw [if_neg (show ¬(dcell c (recvS y.2.2 y.1 y.2.1) = dcell (peer x.2.2 d) (recvS x.2.2 x.1 x.2.1) ∧ () = ()) from fun h => hx h.1), Nat.add_zero]
      by_cases hy : y ∈ l ∧ peer y.2.2 d = c
      · rw [if_pos hy, if_pos ⟨List.mem_cons_of_mem _ hy.1, hy.2⟩]
      · rw [if_neg hy, if_neg]
        rintro ⟨hm, hp⟩
        rcases List.mem_cons.mp hm with rfl | hm
        · exact hx (by rw [hp])
        · exact hy ⟨hm, hp⟩

theorem owed_recv (d : Dev nD) (y : X) : O₀ d (dcell c (recvS y.2.2 y.1 y.2.1)) () = if d = frm y.2.2 c then N else 0 := by
  unfold O₀ O₁
  rw [Pi.add_apply, Finsupp.add_apply, Pi.add_apply, Finsupp.add_apply, owe_recv c d y _ remS_nodup,
    tallyAt_ne_cell (fun h => absurd (congrArg Prod.snd h) (by rintro ⟨⟩)), tallyAt_ne_cell (fun h => absurd (congrArg Prod.snd h) (by rintro ⟨⟩)),
    Finsupp.zero_apply, Nat.add_zero, Nat.add_zero]
  by_cases h : d = frm y.2.2 c
  · subst h; rw [peer_frm, if_pos ⟨remS_all y, rfl⟩, if_pos rfl]
  · rw [if_neg (fun ⟨_, h1⟩ => h (by rw [← h1, frm_peer])), if_neg h]

theorem launch_bar :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (lft c) fun _ => 1, Finset.sum_ite_eq' Finset.univ (rgt c) fun _ => 1, if_pos (Finset.mem_univ _), if_pos (Finset.mem_univ _)]

theorem launch_recv (y : X) :
    tallyOn (dcell c (recvS y.2.2 y.1 y.2.1)) (launchCredit (Pipeline.owing O₀) 0 (dcell c (recvS y.2.2 y.1 y.2.1)))
      = (tallyAt (dcell c (recvS y.2.2 y.1 y.2.1)) () N : CellTallies nD τ sig Unit) := by
  unfold tallyAt; refine congrArg _ (Finsupp.ext fun u => ?_); cases u
  rw [Pipeline.launchCredit_owing, Finsupp.single_eq_same, Finset.sum_congr rfl fun d _ => owed_recv c d y, Finset.sum_ite_eq' Finset.univ (frm y.2.2 c) fun _ => N,
    if_pos (Finset.mem_univ _)]

/-- The semaphores on which credit is owed. -/
def credSem : Unit ⊕ X ↪ SemLoc sig where
  toFun := Sum.elim (fun _ => .reg barS) (fun x => .dma (recvS x.2.2 x.1 x.2.1))
  inj' := by
    rintro (u | i) (u' | j) h
    · rfl
    · exact absurd h (by rintro ⟨⟩)
    · exact absurd h (by rintro ⟨⟩)
    · have h2 := SemLoc.dma.inj h
      exact congrArg Sum.inr (congrArg Prod.snd (xsem_injective (show xsem (true, i) = xsem (true, j) from h2)))

theorem creds :
    (Pipeline.launchCred O₀ c : sProp 𝕄) ⊢ iprop(cred (tallyAt (barCell c) () 2)
      ∗ bigSep Finset.univ fun x : X => cred (tallyAt (dcell c (recvS x.2.2 x.1 x.2.1)) () N)) := by
  unfold Pipeline.launchCred
  refine BI.Entails.trans (bigSep_subset (Finset.subset_univ (Finset.univ.map credSem))) ?_
  rw [bigSep_map, bigSep_univ_sum, bigSep_one]
  exact BIClass.sep_mono (Entails.of_eq (congrArg cred (launch_bar c))) (bigSep_mono fun x _ => Entails.of_eq (congrArg cred (launch_recv c x)))

/-! ## What a device starts from -/

def start : sProp 𝕄 :=
  iprop((∃ K, ctx m K) ∗ (atAll (F := F) c ∗ payToks (F := F) c) ∗ cred (tallyAt (barCell c) () 2)
    ∗ bigSep Finset.univ fun x : X => cred (tallyAt (dcell c (recvS x.2.2 x.1 x.2.1)) () N))

theorem start_intro :
    iprop(Pipeline.unscopedRestP Pipeline.Prefetch.none cfg0.spec c (fun b => m ((c : Thread nD τ).loc b)) ∗ levAts L lv
        ∗ Pipeline.launchCred O₀ c ∗ prngReg c (ρ c) ∗ Gw m c)
      ⊢ |={Set.univ}=> iprop(start m c ∗ emp) := by
  unfold Gw
  iintro ⟨-, Hlev, Hcr, -, ⟨%K, HR, Ha, Ht⟩⟩
  ihave Hc := (creds (F := F) c) $$ Hcr
  icases Hc with ⟨H1, HN⟩
  imodintro
  unfold start ctx recs
  icases HR with ⟨HI, Hre⟩
  isplitl
  · isplitl [HI Hre Hlev]
    · iexists K
      isplitl [HI]; · iexact HI
      isplitl [Hre] <;> iassumption
    isplitl [Ha Ht]; · isplitl [Ha] <;> iassumption
    isplitl [H1] <;> iassumption
  · iempintro

/-- The pieces of the start that the body is proved from. -/
theorem start_parts : start m c ⊢ iprop(∃ K, ctx m K
    ∗ (dutyTok ER (barCell (lft c)) 0 true ∗ dutyTok ER (barCell (rgt c)) 0 false ∗ cred (tallyAt (barCell c) () 2) ∗ atPos ER (barCell c) 0 ∅ 0)
    ∗ hops (Rcv (F := F) c) ∗ hops (STok (F := F) c)) := by
  have e1 := bigSep_CI (F := F) (fun i => atPos ER (kcell (c, i)) 0 ∅ 0)
  have e2 := hops_X (F := F) (fun t s k => dutyTok ER (dcell (peer k c) (xsem (true, t, s, k))) 0 false)
  have e3 := hops_X (F := F) (fun t s k => dutyTok ER (dcell c (xsem (false, t, s, k))) 0 false)
  have e4 := hops_X (F := F) (fun t s k => cred (tallyAt (dcell c (recvS k t s)) () N))
  have hr : iprop(hops (F := F) (fun t s k => cred (tallyAt (dcell c (recvS k t s)) () N)) ∗ hops (F := F) (fun t s k => atPos ER (kcell (c, .inr (true, t, s, k))) 0 ∅ 0))
      ⊢ hops (Rcv (F := F) c) :=
    (hops_sep _ _).2.trans (hops_mono fun t s k => by unfold Rcv; exact BI.Entails.refl _)
  have hs : iprop(hops (F := F) (fun t s k => atPos ER (kcell (c, .inr (false, t, s, k))) 0 ∅ 0)
      ∗ hops (F := F) (fun t s k => dutyTok ER (dcell c (xsem (false, t, s, k))) 0 false)
      ∗ hops (F := F) (fun t s k => dutyTok ER (dcell (peer k c) (xsem (true, t, s, k))) 0 false))
      ⊢ hops (STok (F := F) c) :=
    (BIClass.sep_mono (BI.Entails.refl _) (hops_sep _ _).2).trans
      ((hops_sep _ _).2.trans (hops_mono fun t s k => by unfold STok; exact BI.Entails.refl _))
  unfold start atAll payToks
  iintro ⟨⟨%K, #Hctx⟩, ⟨Ha, ⟨HtL, HtR⟩, Ht2, Ht3⟩, Hb, Hc⟩
  ihave Ha := (Entails.of_eq e1) $$ Ha
  ihave Ht2 := (Entails.of_eq e2) $$ Ht2
  ihave Ht3 := (Entails.of_eq e3) $$ Ht3
  ihave Hc := (Entails.of_eq e4) $$ Hc
  icases Ha with ⟨Hab, Har, Has⟩
  iexists K
  isplitr; · iexact Hctx
  isplitl [HtL HtR Hb Hab]
  · isplitl [HtL]; · iexact HtL
    isplitl [HtR]; · iexact HtR
    isplitl [Hb]; · iexact Hb
    iexact Hab
  isplitl [Hc Har]
  · iapply hr; isplitl [Hc]; · iexact Hc
    iexact Har
  · iapply hs; isplitl [Has]; · iexact Has
    isplitl [Ht3]; · iexact Ht3
    iexact Ht2

end Cert.Proof.Ker
-- ==== Proof.Refold.lean ====
/- The printed body is the composition of pieces of `Text`: first with the printed offsets, then
   with the offsets, cells and devices in closed form. -/
module

public import proofs.«01_k».proof.Proof.Text
@[expose] public section
noncomputable section
namespace Cert.Proof.Ker
open Cert.KernelIdeal Cert.KernelIdeal.Gen
open Idealize.ShloMosaic Idealize.ShloMosaic.TcCoe Idealize.SL Idealize.SL.Sem
variable {F : FTy → Type} [FloatOps F]

theorem off9_le (d : Dev nD) (t : Fin k0_t1_loop.trips) : (k0_off9 d t) 1 + 128 ≤ 2048 := k0_off9_inb d t 1
theorem off10_le (d : Dev nD) (t : Fin k0_t1_loop.trips) : (k0_off10 d t) 1 + 128 ≤ 2048 := k0_off10_inb d t 1

/-- A trip of the hop loop with the printed offsets. -/
def tripRaw (d : Dev nD) (t : Fin k0_t1_loop.trips) : Pr F Unit := do
  gWait 0 (rsem cc0_scratch7 (k0_off3 t) (k0_off3_inb t))
  gWait 1 (rsem cc0_scratch9 (k0_off3 t) (k0_off3_inb t))
  gWait 2 (rsem cc0_scratch11 (k0_off3 t) (k0_off3_inb t))
  gWait 3 (rsem cc0_scratch13 (k0_off3 t) (k0_off3_inb t))
  fwdR 0 (k0_off4 d t 0#32) (k0_off4_inb d t 0) (k0_off4_wordsfp8e4m3 d t 0) ⟨k0_dev11 d, k0_dev11_lt d⟩
    (rsem cc0_scratch6 (k0_off6 t) (k0_off6_inb t)) (rsem cc0_scratch7 (k0_off6 t) (k0_off6_inb t))
  fwdR 1 (k0_off4 d t 0#32) (k0_off4_inb d t 0) (k0_off4_wordsfp8e4m3 d t 0) ⟨k0_dev12 d, k0_dev12_lt d⟩
    (rsem cc0_scratch8 (k0_off6 t) (k0_off6_inb t)) (rsem cc0_scratch9 (k0_off6 t) (k0_off6_inb t))
  fwdR 2 (k0_off5 d t 0#32) (k0_off5_inb d t 0) (k0_off5_wordsfp8e4m3 d t 0) ⟨k0_dev13 d, k0_dev13_lt d⟩
    (rsem cc0_scratch10 (k0_off6 t) (k0_off6_inb t)) (rsem cc0_scratch11 (k0_off6 t) (k0_off6_inb t))
  fwdR 3 (k0_off5 d t 0#32) (k0_off5_inb d t 0) (k0_off5_wordsfp8e4m3 d t 0) ⟨k0_dev14 d, k0_dev14_lt d⟩
    (rsem cc0_scratch12 (k0_off6 t) (k0_off6_inb t)) (rsem cc0_scratch13 (k0_off6 t) (k0_off6_inb t))
  gWait 0 (rsem cc0_scratch7 (k0_off7 t) (k0_off7_inb t))
  gWait 1 (rsem cc0_scratch9 (k0_off7 t) (k0_off7_inb t))
  gWait 2 (rsem cc0_scratch11 (k0_off7 t) (k0_off7_inb t))
  gWait 3 (rsem cc0_scratch13 (k0_off7 t) (k0_off7_inb t))
  fwdR 0 (k0_off4 d t 64#32) (k0_off4_inb d t 1) (k0_off4_wordsfp8e4m3 d t 1) ⟨k0_dev15 d, k0_dev15_lt d⟩
    (rsem cc0_scratch6 (k0_off8 t) (k0_off8_inb t)) (rsem cc0_scratch7 (k0_off8 t) (k0_off8_inb t))
  fwdR 1 (k0_off4 d t 64#32) (k0_off4_inb d t 1) (k0_off4_wordsfp8e4m3 d t 1) ⟨k0_dev16 d, k0_dev16_lt d⟩
    (rsem cc0_scratch8 (k0_off8 t) (k0_off8_inb t)) (rsem cc0_scratch9 (k0_off8 t) (k0_off8_inb t))
  fwdR 2 (k0_off5 d t 64#32) (k0_off5_inb d t 1) (k0_off5_wordsfp8e4m3 d t 1) ⟨k0_dev17 d, k0_dev17_lt d⟩
    (rsem cc0_scratch10 (k0_off8 t) (k0_off8_inb t)) (rsem cc0_scratch11 (k0_off8 t) (k0_off8_inb t))
  fwdR 3 (k0_off5 d t 64#32) (k0_off5_inb d t 1) (k0_off5_wordsfp8e4m3 d t 1) ⟨k0_dev18 d, k0_dev18_lt d⟩
    (rsem cc0_scratch12 (k0_off8 t) (k0_off8_inb t)) (rsem cc0_scratch13 (k0_off8 t) (k0_off8_inb t))
  seqP (fun x => headHop ((k0_off9 d t) 1) ((k0_off10 d t) 1) (off9_le d t) (off10_le d t) x.1 x.2) (pure ⟨⟩) parts

set_option maxRecDepth 65536 in
set_option maxHeartbeats 4000000 in
theorem tripRaw_eq (d : Dev nD) (t : Fin k0_t1_loop.trips) (v2 v13 v24 : BitVec 32) (w : FVec F S256x256 .f32) (w' : FVec F S256x64 .f32) :
    k0_t1_body qM (Memref.isWhole_whole _) kM (Memref.isWhole_whole _) vM (Memref.isWhole_whole _) oM (Memref.isWhole_whole _)
      kgM (Memref.isWhole_whole _) vgM (Memref.isWhole_whole _) lM (Memref.isWhole_whole _) qsM (Memref.isWhole_whole _)
      kbM (Memref.isWhole_whole _) vbM (Memref.isWhole_whole _) cc0_scratch6 cc0_scratch7 cc0_scratch8 cc0_scratch9
      cc0_scratch10 cc0_scratch11 cc0_scratch12 cc0_scratch13 d v2 v13 v24 w w' t ⟨⟩ = tripRaw d t := by
  rfl

/-- A trip of the second loop with the printed offsets. -/
def drainRaw (t : Fin k0_t2_loop.trips) : Pr F Unit := do
  gWait 0 (rsem cc0_scratch6 (k0_off75 t) (k0_off75_inb t))
  gWait 1 (rsem cc0_scratch8 (k0_off75 t) (k0_off75_inb t))
  gWait 2 (rsem cc0_scratch10 (k0_off75 t) (k0_off75_inb t))
  gWait 3 (rsem cc0_scratch12 (k0_off75 t) (k0_off75_inb t))
  gWait 0 (rsem cc0_scratch6 (k0_off78 t) (k0_off78_inb t))
  gWait 1 (rsem cc0_scratch8 (k0_off78 t) (k0_off78_inb t))
  gWait 2 (rsem cc0_scratch10 (k0_off78 t) (k0_off78_inb t))
  gWait 3 (rsem cc0_scratch12 (k0_off78 t) (k0_off78_inb t))
  pure ⟨⟩

theorem off43_le (d : Dev nD) : (k0_off43 d) 1 + 128 ≤ 2048 := k0_off43_inb d 1
theorem off44_le (d : Dev nD) : (k0_off44 d) 1 + 128 ≤ 2048 := k0_off44_inb d 1

/-- What follows the hop loop, with the printed offsets. -/
def tail1Raw {α : Type} (d : Dev nD) (k : Pr F α) : Pr F α := do
  gWait 0 (rsem cc0_scratch7 ![6, 0] inb_S7x2_S1x1_6_0)
  gWait 1 (rsem cc0_scratch9 ![6, 0] inb_S7x2_S1x1_6_0)
  gWait 2 (rsem cc0_scratch11 ![6, 0] inb_S7x2_S1x1_6_0)
  gWait 3 (rsem cc0_scratch13 ![6, 0] inb_S7x2_S1x1_6_0)
  gWait 0 (rsem cc0_scratch7 ![6, 1] inb_S7x2_S1x1_6_1)
  gWait 1 (rsem cc0_scratch9 ![6, 1] inb_S7x2_S1x1_6_1)
  gWait 2 (rsem cc0_scratch11 ![6, 1] inb_S7x2_S1x1_6_1)
  gWait 3 (rsem cc0_scratch13 ![6, 1] inb_S7x2_S1x1_6_1)
  seqP (fun x => headHop ((k0_off43 d) 1) ((k0_off44 d) 1) (off43_le d) (off44_le d) x.1 x.2) (do
    finish 0
    finish 1
    bWait 0 (rsem cc0_scratch6 ![0, 0] inb_S7x2_S1x1_0_0)
    bWait 1 (rsem cc0_scratch8 ![0, 0] inb_S7x2_S1x1_0_0)
    bWait 2 (rsem cc0_scratch10 ![0, 0] inb_S7x2_S1x1_0_0)
    bWait 3 (rsem cc0_scratch12 ![0, 0] inb_S7x2_S1x1_0_0)
    bWait 0 (rsem cc0_scratch6 ![0, 1] inb_S7x2_S1x1_0_1)
    bWait 1 (rsem cc0_scratch8 ![0, 1] inb_S7x2_S1x1_0_1)
    k) parts

/-- The end of the body. -/
def tail2Raw (d : Dev nD) : Pr F PUnit := do
  bWait 2 (rsem cc0_scratch10 ![0, 1] inb_S7x2_S1x1_0_1)
  bWait 3 (rsem cc0_scratch12 ![0, 1] inb_S7x2_S1x1_0_1)
  Scf.Loop.for k0_t2_loop k0_t2_ok ⟨⟩ (fun t _ => drainRaw t)
  pure ⟨⟩

/-- The body up to the hop loop, with the printed offsets. -/
def mainRaw (d : Dev nD) (k : Pr F PUnit) : Pr F PUnit := do
  semSignalWord (⟨k0_dev1 d, k0_dev1_lt d⟩ : Dev nD) barS 1#32
  semSignalWord (⟨k0_dev2 d, k0_dev2_lt d⟩ : Dev nD) barS 1#32
  semWaitWord barS 2#32
  casts
  ownR 0 ![0, 0, 0] inb_S2x256x512_S2x64x512_0_0_0 wordsfp8e4m3_S2x256x512_S2x64x512_0_0_0
    (k0_off1 d 0#32) (k0_off1_inb d 0) (k0_off1_wordsfp8e4m3 d 0) ⟨k0_dev3 d, k0_dev3_lt d⟩
    (rsem cc0_scratch6 ![0, 0] inb_S7x2_S1x1_0_0) (rsem cc0_scratch7 ![0, 0] inb_S7x2_S1x1_0_0)
  ownR 1 ![0, 0, 0] inb_S2x256x512_S2x64x512_0_0_0 wordsfp8e4m3_S2x256x512_S2x64x512_0_0_0
    (k0_off1 d 0#32) (k0_off1_inb d 0) (k0_off1_wordsfp8e4m3 d 0) ⟨k0_dev4 d, k0_dev4_lt d⟩
    (rsem cc0_scratch8 ![0, 0] inb_S7x2_S1x1_0_0) (rsem cc0_scratch9 ![0, 0] inb_S7x2_S1x1_0_0)
  ownR 2 ![0, 128, 0] inb_S2x256x512_S2x64x512_0_128_0 wordsfp8e4m3_S2x256x512_S2x64x512_0_128_0
    (k0_off2 d 0#32) (k0_off2_inb d 0) (k0_off2_wordsfp8e4m3 d 0) ⟨k0_dev5 d, k0_dev5_lt d⟩
    (rsem cc0_scratch10 ![0, 0] inb_S7x2_S1x1_0_0) (rsem cc0_scratch11 ![0, 0] inb_S7x2_S1x1_0_0)
  ownR 3 ![0, 128, 0] inb_S2x256x512_S2x64x512_0_128_0 wordsfp8e4m3_S2x256x512_S2x64x512_0_128_0
    (k0_off2 d 0#32) (k0_off2_inb d 0) (k0_off2_wordsfp8e4m3 d 0) ⟨k0_dev6 d, k0_dev6_lt d⟩
    (rsem cc0_scratch12 ![0, 0] inb_S7x2_S1x1_0_0) (rsem cc0_scratch13 ![0, 0] inb_S7x2_S1x1_0_0)
  ownR 0 ![0, 64, 0] inb_S2x256x512_S2x64x512_0_64_0 wordsfp8e4m3_S2x256x512_S2x64x512_0_64_0
    (k0_off1 d 64#32) (k0_off1_inb d 1) (k0_off1_wordsfp8e4m3 d 1) ⟨k0_dev7 d, k0_dev7_lt d⟩
    (rsem cc0_scratch6 ![0, 1] inb_S7x2_S1x1_0_1) (rsem cc0_scratch7 ![0, 1] inb_S7x2_S1x1_0_1)
  ownR 1 ![0, 64, 0] inb_S2x256x512_S2x64x512_0_64_0 wordsfp8e4m3_S2x256x512_S2x64x512_0_64_0
    (k0_off1 d 64#32) (k0_off1_inb d 1) (k0_off1_wordsfp8e4m3 d 1) ⟨k0_dev8 d, k0_dev8_lt d⟩
    (rsem cc0_scratch8 ![0, 1] inb_S7x2_S1x1_0_1) (rsem cc0_scratch9 ![0, 1] inb_S7x2_S1x1_0_1)
  ownR 2 ![0, 192, 0] inb_S2x256x512_S2x64x512_0_192_0 wordsfp8e4m3_S2x256x512_S2x64x512_0_192_0
    (k0_off2 d 64#32) (k0_off2_inb d 1) (k0_off2_wordsfp8e4m3 d 1) ⟨k0_dev9 d, k0_dev9_lt d⟩
    (rsem cc0_scratch10 ![0, 1] inb_S7x2_S1x1_0_1) (rsem cc0_scratch11 ![0, 1] inb_S7x2_S1x1_0_1)
  ownR 3 ![0, 192, 0] inb_S2x256x512_S2x64x512_0_192_0 wordsfp8e4m3_S2x256x512_S2x64x512_0_192_0
    (k0_off2 d 64#32) (k0_off2_inb d 1) (k0_off2_wordsfp8e4m3 d 1) ⟨k0_dev10 d, k0_dev10_lt d⟩
    (rsem cc0_scratch12 ![0, 1] inb_S7x2_S1x1_0_1) (rsem cc0_scratch13 ![0, 1] inb_S7x2_S1x1_0_1)
  inits
  seqP (fun x => headOwn x.1 x.2) k parts

set_option maxRecDepth 65536 in
set_option maxHeartbeats 8000000 in
theorem drainRaw_eq (d : Dev nD) (t : Fin k0_t2_loop.trips) (v2 : BitVec 32) :
    k0_t2_body (F := F) qM (Memref.isWhole_whole _) kM (Memref.isWhole_whole _) vM (Memref.isWhole_whole _) oM (Memref.isWhole_whole _)
      kgM (Memref.isWhole_whole _) vgM (Memref.isWhole_whole _) lM (Memref.isWhole_whole _) qsM (Memref.isWhole_whole _)
      kbM (Memref.isWhole_whole _) vbM (Memref.isWhole_whole _) cc0_scratch6 cc0_scratch7 cc0_scratch8 cc0_scratch9
      cc0_scratch10 cc0_scratch11 cc0_scratch12 cc0_scratch13 d v2 t ⟨⟩ = drainRaw t := by
  rfl

set_option maxRecDepth 65536 in
set_option maxHeartbeats 8000000 in
theorem bodyRaw_eq : ∃ (X : Dev nD → Σ' (_ : BitVec 32) (_ : BitVec 32), BitVec 32) (Y : Dev nD → Σ' (_ : Dev nD), BitVec 32),
    ∀ t : Fin cfg0.N, bodyAt0 (F := F) t = (do
      let d : Dev nD ← Prog.lift .deviceId
      mainRaw d
        ((((Scf.Loop.for k0_t1_loop k0_t1_ok ⟨⟩ (fun t _ => tripRaw d t)).bind (fun _ => Prog.ret (X d))).bind
          (fun _ => tail1Raw d (Prog.ret (Y d)))).bind (fun _ => tail2Raw d))) :=
  ⟨_, _, fun _ => rfl⟩

/-- The eight semaphore arrays. -/
def arr : Fin 8 → DmaSems sig S7x2
  | 0 => cc0_scratch6 | 1 => cc0_scratch7 | 2 => cc0_scratch8 | 3 => cc0_scratch9
  | 4 => cc0_scratch10 | 5 => cc0_scratch11 | 6 => cc0_scratch12 | 7 => cc0_scratch13

theorem inbS : ∀ (t : Fin 7) (s : Fin 2), ∀ a, (![t.1, s.1] : Fin 2 → ℕ) a + S1x1.size a ≤ S7x2.size a := by decide

theorem rsem_arr : ∀ (a : Fin 8) (t : Fin 7) (s : Fin 2), rsem (arr a) ![t.1, s.1] (inbS t s) = cs a t s := by
  decide +kernel

theorem rsem_at (a : Fin 8) (t : Fin 7) (s : Fin 2) (o : Fin 2 → ℕ) (ho : ∀ a, o a + S1x1.size a ≤ S7x2.size a)
    (e : o = ![t.1, s.1]) : rsem (arr a) o ho = cs a t s := by
  subst e; exact rsem_arr a t s

theorem rsem_all (t : Fin 7) (s : Fin 2) (o : Fin 2 → ℕ) (ho : ∀ a, o a + S1x1.size a ≤ S7x2.size a) (e : o = ![t.1, s.1]) :
    rsem cc0_scratch6 o ho = sendS 0 t s ∧ rsem cc0_scratch7 o ho = recvS 0 t s ∧
    rsem cc0_scratch8 o ho = sendS 1 t s ∧ rsem cc0_scratch9 o ho = recvS 1 t s ∧
    rsem cc0_scratch10 o ho = sendS 2 t s ∧ rsem cc0_scratch11 o ho = recvS 2 t s ∧
    rsem cc0_scratch12 o ho = sendS 3 t s ∧ rsem cc0_scratch13 o ho = recvS 3 t s :=
  ⟨rsem_at 0 t s o ho e, rsem_at 1 t s o ho e, rsem_at 2 t s o ho e, rsem_at 3 t s o ho e,
    rsem_at 4 t s o ho e, rsem_at 5 t s o ho e, rsem_at 6 t s o ho e, rsem_at 7 t s o ho e⟩

theorem fwdR_at (k : Fin 4) (c : Dev nD) (t : Fin 7) (s : Fin 2) (o : Fin 3 → ℕ) (ho) (hw) (n : Dev nD) (x y : DmaSem sig)
    (e : o = ![0, 64 * (chk k c t.1 s).1, 0]) (hn : n = peer k c) (hx : x = sendS k t s) (hy : y = recvS k t s) :
    fwdR (F := F) k o ho hw n x y = fwd c k t s := by
  subst e hn hx hy; rfl

theorem ownR_at (k : Fin 4) (c : Dev nD) (s : Fin 2) (p : Fin 3 → ℕ) (hp) (hwp) (o : Fin 3 → ℕ) (ho) (hw) (n : Dev nD)
    (x y : DmaSem sig) (ep : p = ![0, 64 * (sub k s).1, 0]) (e : o = ![0, 64 * (chk k c 0 s).1, 0]) (hn : n = peer k c)
    (hx : x = sendS k 0 s) (hy : y = recvS k 0 s) :
    ownR (F := F) k p hp hwp o ho hw n x y = sendOwn c k s := by
  subst ep e hn hx hy; rfl

abbrev t1s (t : Fin k0_t1_loop.trips) : Fin 7 := (⟨t.1, t1_lt t⟩ : Fin 6).succ
abbrev t1c (t : Fin k0_t1_loop.trips) : Fin 7 := (⟨t.1, t1_lt t⟩ : Fin 6).castSucc
abbrev t2s (t : Fin k0_t2_loop.trips) : Fin 7 := (⟨t.1, t2_lt t⟩ : Fin 6).succ

theorem o40 : ∀ (d : Dev nD) (t : Fin k0_t1_loop.trips), k0_off4 d t 0#32 = ![0, 64 * (chk 0 d (t.1 + 1) 0).1, 0] := by decide +kernel
theorem o41 : ∀ (d : Dev nD) (t : Fin k0_t1_loop.trips), k0_off4 d t 64#32 = ![0, 64 * (chk 0 d (t.1 + 1) 1).1, 0] := by decide +kernel
theorem o50 : ∀ (d : Dev nD) (t : Fin k0_t1_loop.trips), k0_off5 d t 0#32 = ![0, 64 * (chk 2 d (t.1 + 1) 0).1, 0] := by decide +kernel
theorem o51 : ∀ (d : Dev nD) (t : Fin k0_t1_loop.trips), k0_off5 d t 64#32 = ![0, 64 * (chk 2 d (t.1 + 1) 1).1, 0] := by decide +kernel
theorem o10 : ∀ (d : Dev nD), k0_off1 d 0#32 = ![0, 64 * (chk 0 d 0 0).1, 0] := by decide +kernel
theorem o11 : ∀ (d : Dev nD), k0_off1 d 64#32 = ![0, 64 * (chk 0 d 0 1).1, 0] := by decide +kernel
theorem o20 : ∀ (d : Dev nD), k0_off2 d 0#32 = ![0, 64 * (chk 2 d 0 0).1, 0] := by decide +kernel
theorem o21 : ∀ (d : Dev nD), k0_off2 d 64#32 = ![0, 64 * (chk 2 d 0 1).1, 0] := by decide +kernel
theorem o9 : ∀ (d : Dev nD) (t : Fin k0_t1_loop.trips), (k0_off9 d t) 1 = rowA d t.1 := by decide +kernel
theorem oo10 : ∀ (d : Dev nD) (t : Fin k0_t1_loop.trips), (k0_off10 d t) 1 = rowB d t.1 := by decide +kernel
theorem o43 : ∀ (d : Dev nD), (k0_off43 d) 1 = rowA d 6 := by decide +kernel
theorem o44 : ∀ (d : Dev nD), (k0_off44 d) 1 = rowB d 6 := by decide +kernel

theorem devs : ∀ d : Dev nD,
    (⟨k0_dev1 d, k0_dev1_lt d⟩ : Dev nD) = lft d ∧ (⟨k0_dev2 d, k0_dev2_lt d⟩ : Dev nD) = rgt d ∧
    (⟨k0_dev3 d, k0_dev3_lt d⟩ : Dev nD) = rgt d ∧ (⟨k0_dev4 d, k0_dev4_lt d⟩ : Dev nD) = rgt d ∧
    (⟨k0_dev5 d, k0_dev5_lt d⟩ : Dev nD) = lft d ∧ (⟨k0_dev6 d, k0_dev6_lt d⟩ : Dev nD) = lft d ∧
    (⟨k0_dev7 d, k0_dev7_lt d⟩ : Dev nD) = rgt d ∧ (⟨k0_dev8 d, k0_dev8_lt d⟩ : Dev nD) = rgt d ∧
    (⟨k0_dev9 d, k0_dev9_lt d⟩ : Dev nD) = lft d ∧ (⟨k0_dev10 d, k0_dev10_lt d⟩ : Dev nD) = lft d ∧
    (⟨k0_dev11 d, k0_dev11_lt d⟩ : Dev nD) = rgt d ∧ (⟨k0_dev12 d, k0_dev12_lt d⟩ : Dev nD) = rgt d ∧
    (⟨k0_dev13 d, k0_dev13_lt d⟩ : Dev nD) = lft d ∧ (⟨k0_dev14 d, k0_dev14_lt d⟩ : Dev nD) = lft d ∧
    (⟨k0_dev15 d, k0_dev15_lt d⟩ : Dev nD) = rgt d ∧ (⟨k0_dev16 d, k0_dev16_lt d⟩ : Dev nD) = rgt d ∧
    (⟨k0_dev17 d, k0_dev17_lt d⟩ : Dev nD) = lft d ∧ (⟨k0_dev18 d, k0_dev18_lt d⟩ : Dev nD) = lft d := by
  decide +kernel

theorem trip_eq (d : Dev nD) (t : Fin k0_t1_loop.trips) : tripRaw (F := F) d t = trip d ⟨t.1, t1_lt t⟩ := by
  obtain ⟨_, _, _, _, _, _, _, _, _, _, h11, h12, h13, h14, h15, h16, h17, h18⟩ := devs d
  obtain ⟨r3_0, r3_1, r3_2, r3_3, r3_4, r3_5, r3_6, r3_7⟩ := rsem_all (t1c t) 0 _ (k0_off3_inb t) (k0_off3_eq t)
  obtain ⟨r7_0, r7_1, r7_2, r7_3, r7_4, r7_5, r7_6, r7_7⟩ := rsem_all (t1c t) 1 _ (k0_off7_inb t) (k0_off7_eq t)
  obtain ⟨r6_0, r6_1, r6_2, r6_3, r6_4, r6_5, r6_6, r6_7⟩ := rsem_all (t1s t) 0 _ (k0_off6_inb t) (k0_off6_eq t)
  obtain ⟨r8_0, r8_1, r8_2, r8_3, r8_4, r8_5, r8_6, r8_7⟩ := rsem_all (t1s t) 1 _ (k0_off8_inb t) (k0_off8_eq t)
  unfold tripRaw
  rw [fwdR_at 0 d (t1s t) 0 _ _ _ _ _ _ (o40 d t) h11 r6_0 r6_1, fwdR_at 1 d (t1s t) 0 _ _ _ _ _ _ (o40 d t) h12 r6_2 r6_3,
    fwdR_at 2 d (t1s t) 0 _ _ _ _ _ _ (o50 d t) h13 r6_4 r6_5, fwdR_at 3 d (t1s t) 0 _ _ _ _ _ _ (o50 d t) h14 r6_6 r6_7,
    fwdR_at 0 d (t1s t) 1 _ _ _ _ _ _ (o41 d t) h15 r8_0 r8_1, fwdR_at 1 d (t1s t) 1 _ _ _ _ _ _ (o41 d t) h16 r8_2 r8_3,
    fwdR_at 2 d (t1s t) 1 _ _ _ _ _ _ (o51 d t) h17 r8_4 r8_5, fwdR_at 3 d (t1s t) 1 _ _ _ _ _ _ (o51 d t) h18 r8_6 r8_7,
    r3_1, r3_3,
    r3_5, r3_7,
    r7_1, r7_3,
    r7_5, r7_7]
  simp only [o9, oo10]
  rfl

theorem drain_eq (t : Fin k0_t2_loop.trips) : drainRaw (F := F) t = drainTrip ⟨t.1, t2_lt t⟩ := by
  obtain ⟨r3_0, r3_1, r3_2, r3_3, r3_4, r3_5, r3_6, r3_7⟩ := rsem_all (t2s t) 0 _ (k0_off75_inb t) (k0_off75_eq t)
  obtain ⟨r7_0, r7_1, r7_2, r7_3, r7_4, r7_5, r7_6, r7_7⟩ := rsem_all (t2s t) 1 _ (k0_off78_inb t) (k0_off78_eq t)
  unfold drainRaw
  rw [r3_0, r3_2,
    r3_4, r3_6,
    r7_0, r7_2,
    r7_4, r7_6]
  rfl

/-- The body up to the hop loop. -/
def headP (c : Dev nD) (k : Pr F PUnit) : Pr F PUnit := do
  hello c
  casts
  own4 c 0
  own4 c 1
  inits
  seqP (fun x => headOwn x.1 x.2) k parts

theorem main_eq (d : Dev nD) (k : Pr F PUnit) : mainRaw d k = headP d k := by
  obtain ⟨h1, h2, h3, h4, h5, h6, h7, h8, h9, h10, _⟩ := devs d
  obtain ⟨r0_0, r0_1, r0_2, r0_3, r0_4, r0_5, r0_6, r0_7⟩ := rsem_all 0 0 _ inb_S7x2_S1x1_0_0 rfl
  obtain ⟨r1_0, r1_1, r1_2, r1_3, r1_4, r1_5, r1_6, r1_7⟩ := rsem_all 0 1 _ inb_S7x2_S1x1_0_1 rfl
  unfold mainRaw
  rw [ownR_at 0 d 0 ![0, 0, 0] _ _ _ _ _ _ _ _ rfl (o10 d) h3 r0_0 r0_1, ownR_at 1 d 0 ![0, 0, 0] _ _ _ _ _ _ _ _ rfl (o10 d) h4 r0_2 r0_3,
    ownR_at 2 d 0 ![0, 128, 0] _ _ _ _ _ _ _ _ rfl (o20 d) h5 r0_4 r0_5, ownR_at 3 d 0 ![0, 128, 0] _ _ _ _ _ _ _ _ rfl (o20 d) h6 r0_6 r0_7,
    ownR_at 0 d 1 ![0, 64, 0] _ _ _ _ _ _ _ _ rfl (o11 d) h7 r1_0 r1_1, ownR_at 1 d 1 ![0, 64, 0] _ _ _ _ _ _ _ _ rfl (o11 d) h8 r1_2 r1_3,
    ownR_at 2 d 1 ![0, 192, 0] _ _ _ _ _ _ _ _ rfl (o21 d) h9 r1_4 r1_5, ownR_at 3 d 1 ![0, 192, 0] _ _ _ _ _ _ _ _ rfl (o21 d) h10 r1_6 r1_7,
    h1, h2]
  rfl

theorem tail_eq (d : Dev nD) : tail1Raw (F := F) d (tail2Raw d) = tailP d := by
  have l : (Scf.Loop.for k0_t2_loop k0_t2_ok ⟨⟩ (fun t _ => drainRaw (F := F) t)) =
      Scf.Loop.for k0_t2_loop k0_t2_ok ⟨⟩ (fun t _ => drainTrip ⟨t.1, t2_lt t⟩) := by
    congr 1; funext t _; exact drain_eq t
  unfold tail1Raw tail2Raw
  rw [l]
  simp only [o43, o44]
  rfl

/-- The printed body, in pieces. -/
theorem body_eq (t : Fin cfg0.N) : bodyAt0 (F := F) t = (do let d : Dev nD ← Prog.lift .deviceId; mainP d) := by
  obtain ⟨X, Y, h⟩ := bodyRaw_eq (F := F)
  rw [h t]
  have l (d : Dev nD) : (Scf.Loop.for k0_t1_loop k0_t1_ok ⟨⟩ (fun t _ => tripRaw (F := F) d t)) =
      Scf.Loop.for k0_t1_loop k0_t1_ok ⟨⟩ (fun t _ => trip d ⟨t.1, t1_lt t⟩) := by
    congr 1; funext t _; exact trip_eq d t
  have e (d : Dev nD) : mainRaw (F := F) d
        ((((Scf.Loop.for k0_t1_loop k0_t1_ok ⟨⟩ (fun t _ => tripRaw d t)).bind (fun _ => Prog.ret (X d))).bind
          (fun _ => tail1Raw d (Prog.ret (Y d)))).bind (fun _ => tail2Raw d)) = mainP d := by
    rw [main_eq, l]
    show headP d ((((Scf.Loop.for k0_t1_loop k0_t1_ok ⟨⟩ (fun t _ => trip d ⟨t.1, t1_lt t⟩)) >>= (fun _ => Prog.ret (X d))) >>=
          (fun _ => tail1Raw d (Prog.ret (Y d)))) >>= (fun _ => tail2Raw d)) = _
    rw [Prog.bind_assoc, Prog.bind_assoc]
    show headP d ((Scf.Loop.for k0_t1_loop k0_t1_ok ⟨⟩ (fun t _ => trip d ⟨t.1, t1_lt t⟩)).bind fun _ => tail1Raw d (tail2Raw d)) = _
    rw [tail_eq]; rfl
  simp only [e]

end Cert.Proof.Ker
-- ==== Proof.Run.lean ====
/- The run of the kernel on all devices: it ends, with every result at `outC` and every argument as it was. -/
module

public import proofs.«01_k».proof.Proof.Start
public import proofs.«01_k».proof.Proof.Refold
public import Idealize.ShloMosaic.Lib.Pipeline.CollectiveSegs

@[expose] public section

noncomputable section

namespace Cert.Proof.Ker

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## The data of the staged call -/

/-- The scratch buffers, at any contents. -/
abbrev anyB (b : Ref sig .tc) : sProp 𝕄 := iprop(∃ f : Buf (Elt F) ((c : Thread nD τ).loc b), ((c : Thread nD τ).loc b) ↦{fullShare} f)
def scrAny : sProp 𝕄 := iprop(anyB (F := F) c cc0_scratch0 ∗ anyB (F := F) c cc0_scratch1 ∗ anyB (F := F) c cc0_scratch2
  ∗ anyB (F := F) c cc0_scratch3 ∗ anyB (F := F) c cc0_scratch4 ∗ anyB (F := F) c cc0_scratch5)

def Φ₀ : sProp 𝕄 := iprop(start m c ∗ scrAny (F := F) c)
/-- After the body: the scratch buffers, and all the cells closed. -/
def Φ₁ : sProp 𝕄 := iprop(scrAny (F := F) c ∗ (hops (GotV (F := F) c) ∗ hops (SentV (F := F) c)) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => qst m c
    | ⟨1, _⟩ => kst m c
    | ⟨2, _⟩ => vst m c
    | ⟨3, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) ((c : Thread nD τ).loc b), ⌜f = Z⌝ ∗ (((c : Thread nD τ).loc b) ↦{fullShare} f)) := by
  unfold owns; simp only [Memref.view_whole, View.read_whole, View.set_whole]

abbrev stg (b : Ref sig .tc) (Z : b.ty.Contents (Elt F)) : sProp 𝕄 :=
  iprop(∃ f : Buf (Elt F) ((c : Thread nD τ).loc b), ⌜f = Z⌝ ∗ (((c : Thread nD τ).loc b) ↦{fullShare} f))

theorem stg_pts (b : Ref sig .tc) (Z : b.ty.Contents (Elt F)) : stg (F := F) c b Z ⊣⊢ ((c : Thread nD τ).loc b ↦{fullShare} Z) := by
  constructor
  · iintro ⟨%f, %h, H⟩; subst h; iexact H
  · iintro H; iexists Z; isplitr; · ipureintro; rfl
    iexact H

/-! ## The body -/

/-- The end of the body, put together again. -/
theorem finish_scr : iprop(semVal (barCell c) 0 ∗ Fin_ m c ∗ kvPts m c ∗ OwnG (F := F) c 0 ∗ OwnG (F := F) c 1)
    ⊢ iprop(Φ₁ (F := F) c ∗ ow c 0 ∗ ((c : Thread nD τ).loc cc0_stg3_0 ↦{fullShare} outC m c)) := by
  unfold Fin_ Φ₁ scrAny olPts qsPts
  iintro ⟨Hb, ⟨HO, HG, HS, HR, Hq, Hout, Hl⟩, Hkv, Ok, Ov⟩
  ihave HG := (got_parts m c) $$ HG
  icases HG with ⟨HGv, HGp⟩
  ihave HS := (sent_parts m c) $$ HS
  icases HS with ⟨HSv, HSp⟩
  ihave HR := (right_all m c) $$ [HSp HR]
  · isplitl [HSp] <;> iassumption
  icases HR with ⟨HP, HR⟩
  ihave Hsl := (slots_back m c) $$ [HGp HR]
  · isplitl [HGp] <;> iassumption
  ihave Hg := (gather_slots (F := F) c).2 $$ [Ok Ov Hsl]
  · isplitl [Ok Ov]; · isplitl [Ok] <;> iassumption
    iexact Hsl
  ihave Hkv := (kv_split m c).2 $$ [Hkv HP]
  · isplitl [Hkv] <;> iassumption
  unfold gAny kvFull
  icases Hg with ⟨Hk, Hv⟩
  icases Hkv with ⟨Hkb, Hvb⟩
  isplitr [HO Hout]
  · isplitl [Hk Hv Hl Hq Hkb Hvb]
    · isplitl [Hk]; · iexact Hk
      isplitl [Hv]; · iexact Hv
      isplitl [Hl]; · iexists _; iexact Hl
      isplitl [Hq]; · iexists _; iexact Hq
      isplitl [Hkb]; · iexists _; iexact Hkb
      iexists _; iexact Hvb
    isplitl [HGv HSv]; · isplitl [HGv] <;> iassumption
    iexact Hb
  · isplitl [HO] <;> iassumption

theorem wp_body (fo : (cc0_stg3_0 : Ref sig .tc).ty.Contents (Elt F)) :
    iprop(Φ₀ m c ∗ ow c (O₀ c) ∗ stPts m c ∗ ((c : Thread nD τ).loc cc0_stg3_0 ↦{fullShare} fo))
      ⊢ Wp c (mainP (F := F) c) fun _ => iprop((Φ₁ (F := F) c ∗ ow c 0 ∗ ((c : Thread nD τ).loc cc0_stg3_0 ↦{fullShare} outC m c)) ∗ stPts m c) := by
  unfold Φ₀ scrAny
  iintro ⟨⟨Hst, Hk, Hv, ⟨%fl, Hl⟩, ⟨%fq, Hq⟩, ⟨%fk, Hkb⟩, ⟨%fv, Hvb⟩⟩, HO, Hstg, Hout⟩
  ihave Hst := (start_parts m c) $$ Hst
  icases Hst with ⟨%K, #Hctx, ⟨HtL, HtR, Hcb, Hab⟩, HR, HT⟩
  ihave Hg := (gather_slots (F := F) c).1 $$ [Hk Hv]
  · unfold gAny; isplitl [Hk] <;> iassumption
  icases Hg with ⟨⟨Ok, Ov⟩, Hsl⟩
  ihave Hsl := (slot_bar (F := F) c) $$ Hsl
  icases Hsl with ⟨HB1, HB2⟩
  iapply (wp_wand_r frame (wpE (defs₀ (F := F)) 𝒱₀ (c : Thread nD τ) none) Set.univ (Q := fun _ => iprop(semVal (barCell c) 0 ∗ Fin_ m c ∗ kvPts m c ∗ stPts m c)))
  isplitr [Ok Ov]
  · iapply (wp_main m K c fk fv fo fl fq)
    isplitr; · iexact Hctx
    isplitl [HtL HtR HB1 HB2 Hcb Hab]
    · unfold Hi
      isplitl [HtL]; · iexact HtL
      isplitl [HtR]; · iexact HtR
      isplitl [HB1]; · iexact HB1
      isplitl [HB2]; · iexact HB2
      isplitl [Hcb] <;> iassumption
    isplitl [HO]; · iexact HO
    isplitl [HR]; · iexact HR
    isplitl [HT]; · iexact HT
    isplitl [Hstg]; · iexact Hstg
    isplitl [Hout]; · iexact Hout
    isplitl [Hl]; · iexact Hl
    isplitl [Hq]; · iexact Hq
    isplitl [Hkb] <;> iassumption
  iintro %_ ⟨Hb, HF, Hkv, Hstg⟩
  isplitr [Hstg]
  · iapply (finish_scr m c)
    isplitl [Hb]; · iexact Hb
    isplitl [HF]; · iexact HF
    isplitl [Hkv]; · iexact Hkv
    isplitl [Ok] <;> iassumption
  iexact Hstg

set_option maxRecDepth 4000 in
def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost : sProp 𝕄 :=
  iprop(Φ₁ c ∗ (dats m 0 c).owesAt () t0_0.succ ∗ stg c cc0_stg0_0 (qst m c) ∗ stg c cc0_stg1_0 (kst m c)
    ∗ stg c cc0_stg2_0 (vst m c) ∗ stg c cc0_stg3_0 (outC m c))

theorem before_q (d) : (dats m 0 c).before (0 : Fin 4) t0_0 d = qst m c := by
  unfold Dat.before; rw [if_pos (fetch0_0 t0_0)]; rfl
theorem before_k (d) : (dats m 0 c).before (1 : Fin 4) t0_0 d = kst m c := by
  unfold Dat.before; rw [if_pos (fetch0_1 t0_0)]; rfl
theorem before_v (d) : (dats m 0 c).before (2 : Fin 4) t0_0 d = vst m c := by
  unfold Dat.before; rw [if_pos (fetch0_2 t0_0)]; rfl

theorem owes_in : (dats m 0 c).owesAt () t0_0.castSucc ⊢ ow c (O₀ c) := by
  unfold Dat.owesAt Pipeline.owesWithin ow
  iintro ⟨%W, %hW, H⟩
  iexists W; iexact H
theorem owes_out : ow (F := F) c 0 ⊢ (dats m 0 c).owesAt () t0_0.succ := by
  unfold Dat.owesAt Pipeline.owesWithin ow
  iintro ⟨%W, H⟩
  iexists W
  isplitr; · ipureintro; exact fun _ _ => Or.inl trivial
  iexact H

theorem body_ok : bodyPre m c ⊢ wp frame (wpE (defs₀ (F := F)) 𝒱₀ (c : Thread nD τ) none) Set.univ (bodyAt0 (F := F) t0_0) (fun _ => bodyPost m c) := by
  rw [body_eq]
  simp only [Prog.lift, Prog.bind_op, Prog.bind_ret, wp_deviceId]
  show _ ⊢ Wp c (mainP (F := F) c) _
  unfold bodyPre bodyPost
  iintro ⟨HΦ, HO, ⟨%d0, Hq⟩, ⟨%d1, Hk⟩, ⟨%d2, Hv⟩, ⟨%d3, %fo, %hfo, Hout⟩⟩
  ihave HO := (owes_in m c) $$ HO
  ihave Hq := (stg_pts (F := F) c cc0_stg0_0 _).1 $$ Hq
  ihave Hk := (stg_pts (F := F) c cc0_stg1_0 _).1 $$ Hk
  ihave Hv := (stg_pts (F := F) c cc0_stg2_0 _).1 $$ Hv
  rw [before_q, before_k, before_v]
  iapply (wp_wand_r frame (wpE (defs₀ (F := F)) 𝒱₀ (c : Thread nD τ) none) Set.univ
    (Q := fun _ => iprop((Φ₁ (F := F) c ∗ ow c 0 ∗ ((c : Thread nD τ).loc cc0_stg3_0 ↦{fullShare} outC m c)) ∗ stPts m c)))
  isplitl
  · iapply (wp_body m c fo)
    isplitl [HΦ]; · iexact HΦ
    isplitl [HO]; · iexact HO
    isplitl [Hq Hk Hv]
    · unfold stPts; isplitl [Hq]; · iexact Hq
      isplitl [Hk] <;> iassumption
    iexact Hout
  iintro %_ ⟨⟨HΦ, HO, Hout⟩, Hst⟩
  unfold stPts
  icases Hst with ⟨Hq, Hk, Hv⟩
  isplitl [HΦ]; · iexact HΦ
  isplitl [HO]; · iapply (owes_out m c); iexact HO
  isplitl [Hq]; · iapply (stg_pts (F := F) c cc0_stg0_0 _).2; iexact Hq
  isplitl [Hk]; · iapply (stg_pts (F := F) c cc0_stg1_0 _).2; iexact Hk
  isplitl [Hv]; · iapply (stg_pts (F := F) c cc0_stg2_0 _).2; iexact Hv
  iapply (stg_pts (F := F) c cc0_stg3_0 _).2; iexact Hout

theorem share_eq (w : Fin cfg0.W) : (dats m 0 c).share w = fullShare := by unfold Dat.share; split <;> rfl

set_option maxRecDepth 4000 in
theorem body_obligation : BodyObligation (dats (F := F) m 0 c) (defs₀ (F := F)) 𝒱₀ () Set.univ := fun t => by
  rw [fin_N0 t]
  rw [bigSep_W, bigSep_W]
  simp only [owns_whole]
  have hp : defs₀ (F := F) Proc.tc 0 (t0_0, cfg0.slots t0_0) = bodyAt0 t0_0 := rfl
  rw [hp]
  have h := body_ok m c
  unfold bodyPre bodyPost stg at h
  have h1 : (dats (F := F) m 0 c).Φ t0_0.castSucc = Φ₀ m c := rfl
  have h2 : (dats (F := F) m 0 c).Φ t0_0.succ = Φ₁ c := rfl
  have a0 : (dats (F := F) m 0 c).after 0 t0_0 = qst m c := rfl
  have a1 : (dats (F := F) m 0 c).after 1 t0_0 = kst m c := rfl
  have a2 : (dats (F := F) m 0 c).after 2 t0_0 = vst m c := rfl
  have a3 : (dats (F := F) m 0 c).after 3 t0_0 = outC m c := rfl
  rw [← h1, ← h2, ← a0, ← a1, ← a2, ← a3] at h
  exact h

/-! ## The run -/

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, H⟩
  isplitl [Hs] <;> iassumption

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscoped_eq]
  unfold Φ₁ scrAny Pipeline.ownSems0
  have e := bigSep_dir (F := F) (fun i => semVal ((c : Thread nD τ), osem i) 0)
  iintro ⟨Hr, Hz, Hb⟩
  isplitl [Hb]; · iexact Hb
  isplitl [Hz]; · iapply (Entails.of_eq e.symm); iexact Hz
  iexact Hr

theorem waits : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

/-- Where the arrays end. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with the counters at zero, every run ends: the arrays as `QC` says, every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Gv m) (G' := Gw m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof.Ker
-- ==== Proof.Ends.lean ====
/- What a run leaves in the arrays: the arguments as they were, the result what the body left in its window. -/
module

public import proofs.«01_k».proof.Proof.Run
public import Idealize.ShloMosaic.Lib.Pipeline.ValueKit

@[expose] public section

noncomputable section

namespace Cert.Proof.Ker

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The arguments of the call end as they were. -/
theorem end_q : (dats m 0 c).arrAt (0 : Fin 4) cfg0.N = m (c.tc.loc main_arg0) := (dats m 0 c).arrAt_in (0 : Fin 4) rfl _
theorem end_k : (dats m 0 c).arrAt (1 : Fin 4) cfg0.N = m (c.tc.loc main_arg1) := (dats m 0 c).arrAt_in (1 : Fin 4) rfl _
theorem end_v : (dats m 0 c).arrAt (2 : Fin 4) cfg0.N = m (c.tc.loc main_arg2) := (dats m 0 c).arrAt_in (2 : Fin 4) rfl _

/-- The result array ends holding what the body left. -/
theorem end_out : (dats m 0 c).arrAt (3 : Fin 4) cfg0.N = outC m c := by
  funext i
  refine ((dats m 0 c).arrAt_emb_eq_after_last (3 : Fin 4) t0_0 (by decide +kernel) i).trans ?_
  rfl

/-- Every run ends with device `c`'s result at `outC m c`, its arguments unchanged and every counter at zero. -/
theorem run_ends : θ_run defs (onTc (τ := τ) (main (F := F))) ⟨m, fun _ => 0, ρ⟩ (fun r =>
    (∀ c : Dev nD, r.2.mem (c.tc.loc main_v1) = outC m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2))
    ∧ r.2.sem = fun _ => 0) :=
  (θ_run defs _ _).mono (fun _ h => ⟨fun c => ⟨(h.1 c (3 : Fin 4)).trans (end_out m c), (h.1 c (0 : Fin 4)).trans (end_q m c),
    (h.1 c (1 : Fin 4)).trans (end_k m c), (h.1 c (2 : Fin 4)).trans (end_v m c)⟩, h.2⟩) (run_main m ρ)

end Cert.Proof.Ker
-- ==== Proof.Algebra.lean ====
/- Softmax over the extended reals: a weighted sum divided by its normaliser does not depend on what the scores are
   shifted by, as long as the scores are real; the weights' values may be any extended reals. -/
module

public import Idealize.ShloMosaic.PureOps.Ideal

@[expose] public section

noncomputable section

namespace Cert.Proof.Alg

open Idealize.ShloMosaic

/-- The exponential of a real. -/
theorem exp_coe (x : ℝ) : Ideal.exp (x : EReal) = ((Real.exp x : ℝ) : EReal) := rfl

/-- A positive real divides as a factor. -/
theorem div_coe (x : EReal) {l : ℝ} (hl : 0 < l) : Ideal.div x (l : EReal) = x * ((l⁻¹ : ℝ) : EReal) := by
  unfold Ideal.div
  rw [if_neg (by exact_mod_cast hl.ne'), EReal.coe_inv]

/-- A sum of reals, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A nonnegative real distributes over any sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top _)]

/-- Softmax weights of real scores: the shift cancels. -/
theorem softmax_real {ι : Type} [Fintype ι] [Nonempty ι] (s : ι → ℝ) (M : ℝ) (i : ι) :
    Real.exp (s i) * (∑ k, Real.exp (s k))⁻¹ = Real.exp (s i - M) * (∑ k, Real.exp (s k - M))⁻¹ := by
  have h : ∑ k, Real.exp (s k) = Real.exp M * ∑ k, Real.exp (s k - M) := by
    rw [Finset.mul_sum]
    exact Finset.sum_congr rfl fun k _ => by rw [← Real.exp_add]; congr 1; ring
  have hp : 0 < ∑ k, Real.exp (s k - M) := Finset.sum_pos (fun k _ => Real.exp_pos _) Finset.univ_nonempty
  have he : Real.exp (s i) = Real.exp M * Real.exp (s i - M) := by rw [← Real.exp_add]; congr 1; ring
  have := Real.exp_pos M
  rw [h, he]; field_simp

/-- The weighted sum over its normaliser is the sum of the values by the normalised shifted weights. -/
theorem softmax {ι : Type} [Fintype ι] [Nonempty ι] (s : ι → ℝ) (M : ℝ) (v : ι → EReal) :
    Ideal.div (∑ k, Ideal.exp (s k : EReal) * v k) (∑ k, Ideal.exp (s k : EReal))
      = ∑ k, v k * Ideal.div (Ideal.exp ((s k : EReal) - (M : EReal))) (∑ k, Ideal.exp ((s k : EReal) - (M : EReal))) := by
  have hs : ∀ k, Ideal.exp ((s k : EReal) - (M : EReal)) = ((Real.exp (s k - M) : ℝ) : EReal) := fun k => by
    rw [← EReal.coe_sub, exp_coe]
  have hp : 0 < ∑ k, Real.exp (s k) := Finset.sum_pos (fun k _ => Real.exp_pos _) Finset.univ_nonempty
  have hp' : 0 < ∑ k, Real.exp (s k - M) := Finset.sum_pos (fun k _ => Real.exp_pos _) Finset.univ_nonempty
  simp only [hs, exp_coe, ← coe_sum]
  rw [div_coe _ hp, sum_mul_coe _ _ (inv_nonneg.mpr hp.le)]
  refine Finset.sum_congr rfl fun k _ => ?_
  rw [div_coe _ hp', ← EReal.coe_mul, ← softmax_real s M k, EReal.coe_mul, mul_right_comm, mul_comm _ (v k)]

/-- A real factor of every term of a contraction of reals comes out. -/
theorem scale_sum {ι : Type} [Fintype ι] (x y : ι → EReal) (r : ℝ) (hr : 0 ≤ r) :
    ∑ k, x k * (r : EReal) * y k = (∑ k, x k * y k) * (r : EReal) := by
  rw [sum_mul_coe _ _ hr]
  exact Finset.sum_congr rfl fun k _ => mul_right_comm _ _ _

/-- A contraction of reals is a real. -/
theorem dot_real {ι : Type} [Fintype ι] (x y : ι → EReal) (hx : ∀ k, ∃ r : ℝ, x k = r) (hy : ∀ k, ∃ r : ℝ, y k = r) :
    ∃ r : ℝ, ∑ k, x k * y k = (r : EReal) := by
  choose a ha using hx
  choose b hb using hy
  exact ⟨∑ k, a k * b k, by rw [coe_sum]; exact Finset.sum_congr rfl fun k _ => by rw [ha, hb, EReal.coe_mul]⟩

/-- The largest of finitely many reals, started at the bottom, is one of them. -/
theorem max_real {ι : Type} [Fintype ι] [Nonempty ι] (s : ι → ℝ) : ∃ M : ℝ, Finset.univ.sup (fun k => (s k : EReal)) = (M : EReal) := by
  obtain ⟨i, _, hi⟩ := Finset.exists_mem_eq_sup Finset.univ Finset.univ_nonempty (fun k => (s k : EReal))
  exact ⟨s i, hi⟩

end Cert.Proof.Alg
-- ==== Proof.Value.lean ====
/- One head of a block or of a hop, at each index over the extended reals. -/
module

public import proofs.«01_k».proof.Proof.Sums
public import proofs.«01_k».proof.Proof.Algebra
public import Idealize.ShloMosaic.Lib.Pointwise

@[expose] public section

noncomputable section

namespace Cert.Proof.Ker

open Cert.KernelIdeal Cert.KernelIdeal.Gen
open Idealize.ShloMosaic Idealize.ShloMosaic.TcCoe

theorem own_l (k : FVec Ideal S1x256x64 .fp8e4m3) (q : FVec Ideal S1x256x64 .bf16) (l : FVec Ideal S1x256x64 .f32) (r : Fin 256) (d : Fin 64) :
    lOwn (F := Ideal) k q l (ix3 0 r d) = l (ix3 0 r d) + ∑ j : Fin 256, Ideal.exp (∑ d' : Fin 64, q (ix3 0 r d') * k (ix3 0 j d')) := by
  pointwise [lOwn, k0_pay94, k0_pay92, k0_pay93, k0_pay90]

theorem own_o (k v : FVec Ideal S1x256x64 .fp8e4m3) (q : FVec Ideal S1x256x64 .bf16) (o : FVec Ideal S1x256x64 .f32) (r : Fin 256) (d : Fin 64) :
    outOwn (F := Ideal) k v q o (ix3 0 r d)
      = o (ix3 0 r d) + ∑ j : Fin 256, Ideal.exp (∑ d' : Fin 64, q (ix3 0 r d') * k (ix3 0 j d')) * v (ix3 0 j d) := by
  pointwise [outOwn, k0_pay91, k0_pay90]

theorem hop_l (kA kB : FVec Ideal S1x128x64 .fp8e4m3) (q : FVec Ideal S1x256x64 .bf16) (l : FVec Ideal S1x256x64 .f32) (r : Fin 256) (d : Fin 64) :
    lHop (F := Ideal) kA kB q l (ix3 0 r d)
      = l (ix3 0 r d) + (∑ j : Fin 128, Ideal.exp (∑ d' : Fin 64, q (ix3 0 r d') * kA (ix3 0 j d'))
          + ∑ j : Fin 128, Ideal.exp (∑ d' : Fin 64, q (ix3 0 r d') * kB (ix3 0 j d'))) := by
  pointwise [lHop, k0_pay5, k0_pay4, k0_pay2, k0_pay1]

theorem hop_o (kA kB vA vB : FVec Ideal S1x128x64 .fp8e4m3) (q : FVec Ideal S1x256x64 .bf16) (o : FVec Ideal S1x256x64 .f32) (r : Fin 256) (d : Fin 64) :
    outHop (F := Ideal) kA kB vA vB q o (ix3 0 r d)
      = o (ix3 0 r d) + (∑ j : Fin 128, Ideal.exp (∑ d' : Fin 64, q (ix3 0 r d') * kA (ix3 0 j d')) * vA (ix3 0 j d)
          + ∑ j : Fin 128, Ideal.exp (∑ d' : Fin 64, q (ix3 0 r d') * kB (ix3 0 j d')) * vB (ix3 0 j d)) := by
  pointwise [outHop, k0_pay3, k0_pay2, k0_pay1]

theorem fin_at (o l : FVec Ideal S1x256x512 .f32) (r : Fin 256) (n : Fin 512) :
    k0_pay242 (F := Ideal) o l (ix3 0 r n) = Ideal.div (o (ix3 0 r n)) (l (ix3 0 r n)) := by
  pointwise [k0_pay242]

theorem zero_at (i : S2x256x512.Idx) : k0_pay87 (F := Ideal) i = (0 : EReal) := by
  pointwise [k0_pay87]

theorem cast_at (x : FVec Ideal S2x256x512 .f32) (i : S2x256x512.Idx) : k0_pay85 (F := Ideal) x i = x i := by
  pointwise [k0_pay85]

theorem scaled_at (x : FVec Ideal S2x256x512 .f32) (i : S2x256x512.Idx) : k0_pay89 (F := Ideal) x i = (x i : EReal) * Ideal.ofBits .f32 0x3E000000#32 := by
  pointwise [k0_pay89]

end Cert.Proof.Ker
-- ==== Proof.Ref.lean ====
/- What the reference computes, at each index: the values weighted by the softmax of the scaled products of a query and
   the keys. -/
module

public import proofs.«01_k».proof.Proof.Gen.ReferenceIdeal
public import proofs.«01_k».proof.Proof.Gen.ReferenceIdeal.Run
public import proofs.«01_k».proof.Proof.Algebra
public import Idealize.ShloMosaic.Lib.Pointwise

@[expose] public section

noncomputable section

namespace Cert.Proof.Ref

open Cert.ReferenceIdeal Cert.ReferenceIdeal.Gen Idealize.ShloMosaic Idealize.ShloMosaic.TcCoe Idealize.SL.Sem

/-- Lane `d` of head `h`. -/
abbrev ln (h : Fin 8) (d : Fin 64) : Fin 512 := ⟨h.1 * 64 + d.1, by omega⟩

section Terms
variable (Q K V : FVec Ideal S2x2048x512 .f32)

/-- The scores: queries by keys, scaled. -/
def scoreT : FVec Ideal S2x8x2048x2048 .f32 :=
  mulf (Host.dotGeneral dot_S2x2048x8x64_S2x2048x8x64_S2x8x2048x2048_3_3_1_1_02_02 none
      (shapeCast S2x2048x8x64 Q shapeCasts_S2x2048x512_S2x2048x8x64) (shapeCast S2x2048x8x64 K shapeCasts_S2x2048x512_S2x2048x8x64))
    (broadcastInDim S2x8x2048x2048 ![] bcast_S_S2x8x2048x2048 (constant S_ .f32 0x3E000000#32))

/-- The exponentials of the shifted scores. -/
def expT (s : FVec Ideal S2x8x2048x2048 .f32) : FVec Ideal S2x8x2048x2048 .f32 :=
  Host.exp (subf s (broadcastInDim S2x8x2048x2048 ![0, 1, 2, 3] bcast_S2x8x2048x1_S2x8x2048x2048_0_1_2_3
    (broadcastInDim S2x8x2048x1 ![0, 1, 2] bcast_S2x8x2048_S2x8x2048x1_0_1_2
      (Host.reduce FloatOps.maximumf s (constant S_ .f32 0xFF800000#32) reducesTo_S2x8x2048x2048_S2x8x2048_d3 h_S_))))

/-- The values by the normalised weights. -/
def outT (e : FVec Ideal S2x8x2048x2048 .f32) : FVec Ideal S2x2048x512 .f32 :=
  shapeCast S2x2048x512 (transpose S2x2048x8x64 [0, 3, 1, 2]
    (Host.dotGeneral dot_S2x2048x8x64_S2x8x2048x2048_S2x8x64x2048_1_3_3_2_02_01 none
      (shapeCast S2x2048x8x64 V shapeCasts_S2x2048x512_S2x2048x8x64)
      (Host.divf e (broadcastInDim S2x8x2048x2048 ![0, 1, 2, 3] bcast_S2x8x2048x1_S2x8x2048x2048_0_1_2_3
        (broadcastInDim S2x8x2048x1 ![0, 1, 2] bcast_S2x8x2048_S2x8x2048x1_0_1_2
          (Host.reduceAdd e (constant S_ .f32 0x00000000#32) reducesTo_S2x8x2048x2048_S2x8x2048_d3 h_S_)))))
    transposes_S2x8x64x2048_S2x2048x8x64_0_3_1_2) shapeCasts_S2x2048x8x64_S2x2048x512

/-- The reference's result. -/
def refOut : FVec Ideal S2x2048x512 .f32 := outT V (expT (scoreT Q K))

/-- A scaled product of a query and a key. -/
def score (b : Fin 2) (r k : Fin 2048) (h : Fin 8) : EReal :=
  (∑ d : Fin 64, Q (ix3 b r (ln h d)) * K (ix3 b k (ln h d))) * ((1 / 8 : ℝ) : EReal)

theorem eighth : Ideal.ofBits .f32 0x3E000000#32 = ((1 / 8 : ℝ) : EReal) := by
  simp [Ideal.ofBits, Ideal.ieee, -EReal.coe_mul]; norm_num

theorem bottom : Ideal.ofBits .f32 0xFF800000#32 = ⊥ := by simp [Ideal.ofBits, Ideal.ieee]

theorem scoreT_apply (b : Fin 2) (r k : Fin 2048) (h : Fin 8) : scoreT Q K (ix4 b h r k) = score Q K b r k h := by
  unfold score
  rw [← eighth]
  pointwise [scoreT]

theorem expT_apply (s : FVec Ideal S2x8x2048x2048 .f32) (b : Fin 2) (r k : Fin 2048) (h : Fin 8) :
    expT s (ix4 b h r k) = Ideal.exp (s (ix4 b h r k) - Finset.univ.sup fun k' => s (ix4 b h r k')) := by
  have e : Finset.univ.sup (fun k' => s (ix4 b h r k')) = Finset.fold max (Ideal.ofBits .f32 0xFF800000#32) (fun k' => s (ix4 b h r k')) Finset.univ := by
    rw [bottom]; rfl
  rw [e]
  pointwise [expT]

theorem outT_apply (e : FVec Ideal S2x8x2048x2048 .f32) (b : Fin 2) (r : Fin 2048) (h : Fin 8) (d : Fin 64) :
    outT V e (ix3 b r (ln h d)) = ∑ k : Fin 2048, V (ix3 b k (ln h d)) * Ideal.div (e (ix4 b h r k)) (∑ k', e (ix4 b h r k')) := by
  have e1 : (h.1 * 64 + d.1) / 64 = h.1 := by omega
  have e2 : (h.1 * 64 + d.1) % 64 = d.1 := by omega
  pointwise [outT]
  simp only [e1, e2]

/-- The reference's result where the queries and the keys are finite: any real shift serves as well as the largest score. -/
theorem refOut_apply (hQ : ∀ i, ∃ x : ℝ, Q i = x) (hK : ∀ i, ∃ x : ℝ, K i = x) (b : Fin 2) (r : Fin 2048) (h : Fin 8) (d : Fin 64) :
    refOut Q K V (ix3 b r (ln h d))
      = Ideal.div (∑ k : Fin 2048, Ideal.exp (score Q K b r k h) * V (ix3 b k (ln h d))) (∑ k : Fin 2048, Ideal.exp (score Q K b r k h)) := by
  have hs : ∀ k, ∃ x : ℝ, score Q K b r k h = x := fun k => by
    obtain ⟨x, hx⟩ := Alg.dot_real (fun d : Fin 64 => Q (ix3 b r (ln h d))) (fun d => K (ix3 b k (ln h d))) (fun _ => hQ _) (fun _ => hK _)
    exact ⟨x * (1 / 8), by unfold score; rw [hx, EReal.coe_mul]⟩
  choose s hs using hs
  obtain ⟨M, hM⟩ := Alg.max_real s
  unfold refOut
  rw [outT_apply]
  simp only [expT_apply, scoreT_apply, hs, hM]
  exact (Alg.softmax s M _).symm

end Terms

/-- Every run of the reference ends with its result at `refOut` and its arguments unchanged. -/
theorem run_ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Proof.Ref
-- ==== Proof.Parts.lean ====
/- The heads of the buffers, read and written at each index, and what the sums come to there. -/
module

public import proofs.«01_k».proof.Proof.Value
public import proofs.«01_k».proof.Proof.Ref

@[expose] public section

noncomputable section

namespace Cert.Proof.Ker

open Cert.KernelIdeal Cert.KernelIdeal.Gen
open Idealize.ShloMosaic Idealize.ShloMosaic.TcCoe
open Cert.Proof.Ref (ln)

/-! ## Where an index of a part lies -/

theorem rH_emb (b : Fin 2) (h : Fin 8) (r : Fin 256) (d : Fin 64) :
    (rH b h).emb (ix3 (0 : Fin 1) r d) = (ix3 b r (ln h d) : S2x256x512.Idx) := by
  funext a
  fin_cases a <;> refine Fin.ext ?_
  · show b.1 + 1 * 0 = b.1; omega
  · show 0 + 1 * r.1 = r.1; omega
  · show 64 * h.1 + 1 * d.1 = h.1 * 64 + d.1; omega

theorem rG_emb (b : Fin 2) (n : ℕ) (hn : n + 128 ≤ 2048) (h : Fin 8) (j : Fin 128) (d : Fin 64) :
    (rG b n hn h).emb (ix3 (0 : Fin 1) j d) = (ix3 b ⟨n + j.1, by omega⟩ (ln h d) : S2x2048x512.Idx) := by
  funext a
  fin_cases a <;> refine Fin.ext ?_
  · show b.1 + 1 * 0 = b.1; omega
  · show n + 1 * j.1 = n + j.1; omega
  · show 64 * h.1 + 1 * d.1 = h.1 * 64 + d.1; omega

theorem rF_emb (b : Fin 2) (r : Fin 256) (l : Fin 512) :
    (rF b).emb (ix3 (0 : Fin 1) r l) = (ix3 b r l : S2x256x512.Idx) := by
  funext a
  fin_cases a <;> refine Fin.ext ?_
  · show b.1 + 1 * 0 = b.1; omega
  · show 0 + 1 * r.1 = r.1; omega
  · show 0 + 1 * l.1 = l.1; omega

/-! ## Reads -/

section Reads
variable {F : FTy → Type} [FloatOps F] (b : Fin 2) (h : Fin 8) (r : Fin 256) (d : Fin 64)

theorem getO_at (f : Blk F .f32) : getO b h f (ix3 0 r d) = f (ix3 b r (ln h d)) := congrArg f (rH_emb b h r d)
theorem getL_at (f : Blk F .f32) : getL b h f (ix3 0 r d) = f (ix3 b r (ln h d)) := congrArg f (rH_emb b h r d)
theorem getQ_at (f : Blk F .bf16) : getQ b h f (ix3 0 r d) = f (ix3 b r (ln h d)) := congrArg f (rH_emb b h r d)
theorem getKB_at (f : Blk F .fp8e4m3) : getKB b h f (ix3 0 r d) = f (ix3 b r (ln h d)) := congrArg f (rH_emb b h r d)
theorem getVB_at (f : Blk F .fp8e4m3) : getVB b h f (ix3 0 r d) = f (ix3 b r (ln h d)) := congrArg f (rH_emb b h r d)
theorem getKG_at (n : ℕ) (hn : n + 128 ≤ 2048) (j : Fin 128) (f : Gat F .fp8e4m3) :
    getKG b n hn h f (ix3 0 j d) = f (ix3 b ⟨n + j.1, by omega⟩ (ln h d)) := congrArg f (rG_emb b n hn h j d)
theorem getVG_at (n : ℕ) (hn : n + 128 ≤ 2048) (j : Fin 128) (f : Gat F .fp8e4m3) :
    getVG b n hn h f (ix3 0 j d) = f (ix3 b ⟨n + j.1, by omega⟩ (ln h d)) := congrArg f (rG_emb b n hn h j d)

/-! ## Writes -/

theorem putO_at (f : Blk F .f32) (w : Vec F S1x256x64 .f32) : putO b h f w (ix3 b r (ln h d)) = w (ix3 0 r d) := by
  rw [← rH_emb b h r d]
  exact View.write_emb_of_mem (v := oM.access (rH b h)) f w (Finset.mem_univ (ix3 0 r d : S1x256x64.Idx))

theorem putL_at (f : Blk F .f32) (w : Vec F S1x256x64 .f32) : putL b h f w (ix3 b r (ln h d)) = w (ix3 0 r d) := by
  rw [← rH_emb b h r d]
  exact View.write_emb_of_mem (v := lM.access (rH b h)) f w (Finset.mem_univ (ix3 0 r d : S1x256x64.Idx))

/-- Another head's part does not hold the index. -/
theorem not_mem_rH (x : Fin 2 × Fin 8) (hx : x ≠ (b, h)) : (ix3 b r (ln h d) : S2x256x512.Idx) ∉ (rH x.1 x.2).set := fun hm => hx (by
  have h0 := (Rect.mem_set_unit.mp hm) 0
  have h2 := (Rect.mem_set_unit.mp hm) 2
  have h0' : x.1.1 ≤ b.1 ∧ b.1 < x.1.1 + 1 := h0
  have h2' : 64 * x.2.1 ≤ h.1 * 64 + d.1 ∧ h.1 * 64 + d.1 < 64 * x.2.1 + 64 := h2
  exact Prod.ext (Fin.ext (by show x.1.1 = b.1; omega)) (Fin.ext (by show x.2.1 = h.1; omega)))

theorem putO_off (x : Fin 2 × Fin 8) (hx : x ≠ (b, h)) (f : Blk F .f32) (w : Vec F S1x256x64 .f32) :
    putO x.1 x.2 f w (ix3 b r (ln h d)) = f (ix3 b r (ln h d)) := by
  refine View.write_of_not_mem (v := oM.access (rH x.1 x.2)) f w Finset.univ fun hm => not_mem_rH b h r d x hx ?_
  rwa [show (oM.access (rH x.1 x.2)).setOn Finset.univ = (rH x.1 x.2).set from View.set_slice_whole cc0_stg3_0 _] at hm

theorem putL_off (x : Fin 2 × Fin 8) (hx : x ≠ (b, h)) (f : Blk F .f32) (w : Vec F S1x256x64 .f32) :
    putL x.1 x.2 f w (ix3 b r (ln h d)) = f (ix3 b r (ln h d)) := by
  refine View.write_of_not_mem (v := lM.access (rH x.1 x.2)) f w Finset.univ fun hm => not_mem_rH b h r d x hx ?_
  rwa [show (lM.access (rH x.1 x.2)).setOn Finset.univ = (rH x.1 x.2).set from View.set_slice_whole cc0_scratch2 _] at hm

end Reads

/-! ## One index through the heads -/

/-- A fold whose every step leaves a quantity but for one step of the list, which adds to it. -/
theorem foldl_one {S X : Type} [DecidableEq X] (f : S → X → S) (v : S → EReal) (x₀ : X) (δ : EReal)
    (h₁ : ∀ s, v (f s x₀) = v s + δ) (h₂ : ∀ s x, x ≠ x₀ → v (f s x) = v s) :
    ∀ (l : List X), l.Nodup → x₀ ∈ l → ∀ s, v (l.foldl f s) = v s + δ := by
  have hoff : ∀ (l : List X), x₀ ∉ l → ∀ s, v (l.foldl f s) = v s := by
    intro l
    induction l with
    | nil => intro _ _; rfl
    | cons a l ih =>
      intro hm s
      rw [List.foldl_cons, ih (fun h => hm (List.mem_cons_of_mem _ h)), h₂ _ _ fun h => hm (by rw [h]; exact List.mem_cons_self)]
  intro l
  induction l with
  | nil => intro _ hm; exact absurd hm List.not_mem_nil
  | cons a l ih =>
    intro hn hm s
    rw [List.nodup_cons] at hn
    rw [List.foldl_cons]
    rcases List.mem_cons.mp hm with rfl | hm
    · rw [hoff l hn.1, h₁]
    · rw [ih hn.2 hm, h₂ _ a fun h => hn.1 (by rw [h]; exact hm)]

theorem parts_nodup : parts.Nodup := by decide
theorem mem_parts : ∀ x : Fin 2 × Fin 8, x ∈ parts := by decide

/-! ## The sums at an index -/

/-- The exponential of a query's product with key `n`. -/
def wt (q : Blk Ideal .bf16) (k : Gat Ideal .fp8e4m3) (b : Fin 2) (r : Fin 256) (h : Fin 8) (n : Fin 2048) : EReal :=
  Ideal.exp (∑ d : Fin 64, (q (ix3 b r (ln h d)) : EReal) * k (ix3 b n (ln h d)))

/-- One half block of a sum over the keys. -/
def half (f : Fin 2048 → EReal) (n : Fin 16) : EReal := ∑ j : Fin 128, f ⟨128 * n.1 + j.1, by omega⟩

/-- The own block of a sum over the keys. -/
def ownSum (f : Fin 2048 → EReal) (c : Dev nD) : EReal := ∑ j : Fin 256, f ⟨256 * c.1 + j.1, by have : c.1 < 8 := c.2; omega⟩

/-- What hop `t` adds to a sum over the keys. -/
def hopSum (f : Fin 2048 → EReal) (c : Dev nD) (t : ℕ) : EReal :=
  ∑ j : Fin 128, f ⟨rowA c t + j.1, by have := rowA_le c t; omega⟩ + ∑ j : Fin 128, f ⟨rowB c t + j.1, by have := rowB_le c t; omega⟩

variable (m : (ℓ : Loc nD τ sig) → Buf (Elt Ideal) ℓ) (c : Dev nD) (b : Fin 2) (r : Fin 256) (h : Fin 8) (d : Fin 64)

/-- The own block is a block of the gathered. -/
theorem own_gath {e : EltTy} (f : Dev nD → S2x256x512.Idx → Elt Ideal e) (j : Fin 256) (l : Fin 512) :
    f c (ix3 b j l) = gath f (ix3 b ⟨256 * c.1 + j.1, by have : c.1 < 8 := c.2; omega⟩ l) := by
  have e1 : (256 * c.1 + j.1) / 256 = c.1 := by omega
  have e2 : (256 * c.1 + j.1) % 256 = j.1 := by omega
  unfold gath
  refine congr (congrArg f (Fin.ext e1.symm)) (funext fun a => ?_)
  fin_cases a
  · rfl
  · exact Fin.ext e2.symm
  · rfl

abbrev wC (n : Fin 2048) : EReal := wt (qC m c) (KG m) b r h n
abbrev wvC (n : Fin 2048) : EReal := wC m c b r h n * VG m (ix3 b n (ln h d))

theorem own_o_at (st : OL Ideal) : ((ownStep m c st (b, h)).1 (ix3 b r (ln h d)) : EReal) = st.1 (ix3 b r (ln h d)) + ownSum (wvC m c b r h d) c := by
  unfold ownStep
  dsimp only
  rw [putO_at, own_o]
  simp only [getO_at, getQ_at, getKB_at, getVB_at, own_gath c b (kC m), own_gath c b (vC m)]
  rfl

theorem own_l_at (st : OL Ideal) : ((ownStep m c st (b, h)).2 (ix3 b r (ln h d)) : EReal) = st.2 (ix3 b r (ln h d)) + ownSum (wC m c b r h) c := by
  unfold ownStep
  dsimp only
  rw [putL_at, own_l]
  simp only [getL_at, getQ_at, getKB_at, own_gath c b (kC m)]
  rfl

theorem hop_o_at (t : ℕ) (st : OL Ideal) : ((hopStep m c t st (b, h)).1 (ix3 b r (ln h d)) : EReal) = st.1 (ix3 b r (ln h d)) + hopSum (wvC m c b r h d) c t := by
  unfold hopStep
  dsimp only
  rw [putO_at, hop_o]
  simp only [getO_at, getQ_at, getKG_at, getVG_at]
  rfl

theorem hop_l_at (t : ℕ) (st : OL Ideal) : ((hopStep m c t st (b, h)).2 (ix3 b r (ln h d)) : EReal) = st.2 (ix3 b r (ln h d)) + hopSum (wC m c b r h) c t := by
  unfold hopStep
  dsimp only
  rw [putL_at, hop_l]
  simp only [getL_at, getQ_at, getKG_at]
  rfl

theorem own_o_off (st : OL Ideal) (x : Fin 2 × Fin 8) (hx : x ≠ (b, h)) :
    (ownStep m c st x).1 (ix3 b r (ln h d)) = st.1 (ix3 b r (ln h d)) := by
  unfold ownStep
  dsimp only
  rw [putO_off b h r d x hx]

theorem hop_o_off (t : ℕ) (st : OL Ideal) (x : Fin 2 × Fin 8) (hx : x ≠ (b, h)) :
    (hopStep m c t st x).1 (ix3 b r (ln h d)) = st.1 (ix3 b r (ln h d)) := by
  unfold hopStep
  dsimp only
  rw [putO_off b h r d x hx]

theorem own_l_off (st : OL Ideal) (x : Fin 2 × Fin 8) (hx : x ≠ (b, h)) :
    (ownStep m c st x).2 (ix3 b r (ln h d)) = st.2 (ix3 b r (ln h d)) := by
  unfold ownStep
  dsimp only
  rw [putL_off b h r d x hx]

theorem hop_l_off (t : ℕ) (st : OL Ideal) (x : Fin 2 × Fin 8) (hx : x ≠ (b, h)) :
    (hopStep m c t st x).2 (ix3 b r (ln h d)) = st.2 (ix3 b r (ln h d)) := by
  unfold hopStep
  dsimp only
  rw [putL_off b h r d x hx]

/-- The weighted sum after `n` hops. -/
theorem sums_o (n : ℕ) : ((sums m c n).1 (ix3 b r (ln h d)) : EReal)
    = ownSum (wvC m c b r h d) c + ∑ t ∈ Finset.range n, hopSum (wvC m c b r h d) c t := by
  induction n with
  | zero =>
    have := foldl_one (ownStep m c) (fun s => (s.1 (ix3 b r (ln h d)) : EReal)) (b, h) _ (fun s => own_o_at m c b r h d s)
      (fun s x hx => own_o_off m c b r h d s x hx) parts parts_nodup (mem_parts _) (k0_pay87 (F := Ideal), k0_pay87 (F := Ideal))
    unfold sums
    refine Eq.trans this ?_
    rw [show ((k0_pay87 (F := Ideal), k0_pay87 (F := Ideal)).1 (ix3 b r (ln h d)) : EReal) = 0 from zero_at (ix3 b r (ln h d)), zero_add,
      Finset.sum_range_zero, add_zero]
  | succ n ih =>
    have := foldl_one (hopStep m c n) (fun s => (s.1 (ix3 b r (ln h d)) : EReal)) (b, h) _ (fun s => hop_o_at m c b r h d n s)
      (fun s x hx => hop_o_off m c b r h d n s x hx) parts parts_nodup (mem_parts _) (sums m c n)
    unfold sums
    refine Eq.trans this ?_
    rw [Finset.sum_range_succ, ← add_assoc]
    exact congrArg (· + _) ih

/-- The normaliser after `n` hops. -/
theorem sums_l (n : ℕ) : ((sums m c n).2 (ix3 b r (ln h d)) : EReal)
    = ownSum (wC m c b r h) c + ∑ t ∈ Finset.range n, hopSum (wC m c b r h) c t := by
  induction n with
  | zero =>
    have := foldl_one (ownStep m c) (fun s => (s.2 (ix3 b r (ln h d)) : EReal)) (b, h) _ (fun s => own_l_at m c b r h d s)
      (fun s x hx => own_l_off m c b r h d s x hx) parts parts_nodup (mem_parts _) (k0_pay87 (F := Ideal), k0_pay87 (F := Ideal))
    unfold sums
    refine Eq.trans this ?_
    rw [show ((k0_pay87 (F := Ideal), k0_pay87 (F := Ideal)).2 (ix3 b r (ln h d)) : EReal) = 0 from zero_at (ix3 b r (ln h d)), zero_add,
      Finset.sum_range_zero, add_zero]
  | succ n ih =>
    have := foldl_one (hopStep m c n) (fun s => (s.2 (ix3 b r (ln h d)) : EReal)) (b, h) _ (fun s => hop_l_at m c b r h d n s)
      (fun s x hx => hop_l_off m c b r h d n s x hx) parts parts_nodup (mem_parts _) (sums m c n)
    unfold sums
    refine Eq.trans this ?_
    rw [Finset.sum_range_succ, ← add_assoc]
    exact congrArg (· + _) ih

end Cert.Proof.Ker
-- ==== Proof.Total.lean ====
/- The result of a device, as one sum over all keys divided by another. -/
module

public import proofs.«01_k».proof.Proof.Parts

@[expose] public section

noncomputable section

namespace Cert.Proof.Ker

open Cert.KernelIdeal Cert.KernelIdeal.Gen
open Idealize.ShloMosaic Idealize.ShloMosaic.TcCoe
open Cert.Proof.Ref (ln)

/-! ## Every key once -/

theorem sum_halves (f : Fin 2048 → EReal) : ∑ k, f k = ∑ n : Fin 16, half f n := by
  unfold half
  rw [← (finProdFinEquiv (m := 16) (n := 128)).sum_comp f, Fintype.sum_prod_type]
  exact Finset.sum_congr rfl fun n _ => Finset.sum_congr rfl fun j _ => congrArg f (Fin.ext (by
    show j.1 + 128 * n.1 = 128 * n.1 + j.1; omega))

theorem own_halves (f : Fin 2048 → EReal) (c : Dev nD) :
    ownSum f c = half f ⟨2 * c.1, by have : c.1 < 8 := c.2; omega⟩ + half f ⟨2 * c.1 + 1, by have : c.1 < 8 := c.2; omega⟩ := by
  unfold ownSum half
  rw [Fin.sum_univ_add (a := 128) (b := 128)]
  refine congrArg₂ (· + ·) (Finset.sum_congr rfl fun j _ => congrArg f (Fin.ext ?_)) (Finset.sum_congr rfl fun j _ => congrArg f (Fin.ext ?_))
  · show 256 * c.1 + j.1 = 128 * (2 * c.1) + j.1; omega
  · show 256 * c.1 + (128 + j.1) = 128 * (2 * c.1 + 1) + j.1; omega

theorem hop_halves (f : Fin 2048 → EReal) (c : Dev nD) (t : ℕ) :
    hopSum f c t = half f ⟨2 * blkOf 0 c (t + 1), by have := blkOf_lt 0 c (t + 1); omega⟩
      + half f ⟨2 * blkOf 2 c (t + 1) + 1, by have := blkOf_lt 2 c (t + 1); omega⟩ := by
  unfold hopSum half
  refine congrArg₂ (· + ·) (Finset.sum_congr rfl fun j _ => congrArg f (Fin.ext ?_)) (Finset.sum_congr rfl fun j _ => congrArg f (Fin.ext ?_))
  · show 256 * blkOf 0 c (t + 1) + j.1 = 128 * (2 * blkOf 0 c (t + 1)) + j.1; omega
  · show 256 * blkOf 2 c (t + 1) + 128 + j.1 = 128 * (2 * blkOf 2 c (t + 1) + 1) + j.1; omega

/-- The half blocks that the own block and the hops bring. -/
def visit (c : Dev nD) : Fin 2 ⊕ (Fin 7 × Fin 2) → Fin 16
  | .inl s => ⟨2 * c.1 + s.1, by have : c.1 < 8 := c.2; omega⟩
  | .inr (t, s) => ⟨2 * blkOf (if s = 0 then 0 else 2) c (t.1 + 1) + s.1, by have := blkOf_lt (if s = 0 then 0 else 2) c (t.1 + 1); omega⟩

theorem visit_bij (c : Dev nD) : Function.Bijective (visit c) := by
  refine (Fintype.bijective_iff_injective_and_card _).mpr ⟨?_, by decide⟩
  intro a b
  revert c a b
  decide +kernel

theorem total (f : Fin 2048 → EReal) (c : Dev nD) :
    ownSum f c + ∑ t ∈ Finset.range 7, hopSum f c t = ∑ k, f k := by
  rw [sum_halves, ← (visit_bij c).sum_comp (half f), Fintype.sum_sum_type, Fin.sum_univ_two, Fintype.sum_prod_type, own_halves, Finset.sum_range]
  refine congrArg₂ (· + ·) rfl (Finset.sum_congr rfl fun t _ => ?_)
  rw [hop_halves, Fin.sum_univ_two]
  rfl

/-! ## The division -/

section Fin
variable (b : Fin 2) (r : Fin 256) (l : Fin 512)

theorem not_mem_rF (b' : Fin 2) (hb : b' ≠ b) : (ix3 b r l : S2x256x512.Idx) ∉ (rF b').set := fun hm => hb (by
  have h0 := (Rect.mem_set_unit.mp hm) 0
  have h0' : b'.1 ≤ b.1 ∧ b.1 < b'.1 + 1 := h0
  exact Fin.ext (by omega))

theorem finStep_at (o l' : Blk Ideal .f32) : (finStep b o l' (ix3 b r l) : EReal) = Ideal.div (o (ix3 b r l)) (l' (ix3 b r l)) := by
  unfold finStep
  have e : (oM.access (rF b)).write (Elt Ideal) o (k0_pay242 ((oM.access (rF b)).read (Elt Ideal) o) ((lM.access (rF b)).read (Elt Ideal) l')) Finset.univ
      ((rF b).emb (ix3 (0 : Fin 1) r l)) = k0_pay242 ((oM.access (rF b)).read (Elt Ideal) o) ((lM.access (rF b)).read (Elt Ideal) l') (ix3 (0 : Fin 1) r l) :=
    View.write_emb_of_mem (v := oM.access (rF b)) o _ (Finset.mem_univ (ix3 (0 : Fin 1) r l : S1x256x512.Idx))
  rw [rF_emb b r l] at e
  rw [e, fin_at]
  have e1 : (oM.access (rF b)).read (Elt Ideal) o (ix3 (0 : Fin 1) r l) = o (ix3 b r l) := congrArg o (rF_emb b r l)
  have e2 : (lM.access (rF b)).read (Elt Ideal) l' (ix3 (0 : Fin 1) r l) = l' (ix3 b r l) := congrArg l' (rF_emb b r l)
  exact congrArg₂ Ideal.div e1 e2

theorem finStep_off (b' : Fin 2) (hb : b' ≠ b) (o l' : Blk Ideal .f32) : finStep b' o l' (ix3 b r l) = o (ix3 b r l) := by
  unfold finStep
  refine View.write_of_not_mem (v := oM.access (rF b')) o _ Finset.univ fun hm => not_mem_rF b r l b' hb ?_
  rwa [show (oM.access (rF b')).setOn Finset.univ = (rF b').set from View.set_slice_whole cc0_stg3_0 _] at hm

variable (m : (ℓ : Loc nD τ sig) → Buf (Elt Ideal) ℓ) (c : Dev nD)

theorem outC_div : (outC m c (ix3 b r l) : EReal) = Ideal.div ((sums m c 7).1 (ix3 b r l)) ((sums m c 7).2 (ix3 b r l)) := by
  unfold outC
  obtain rfl | rfl : b = 0 ∨ b = 1 := by revert b; decide
  · rw [finStep_off 0 r l 1 (by decide), finStep_at]
  · rw [finStep_at, finStep_off 1 r l 0 (by decide)]

end Fin

variable (m : (ℓ : Loc nD τ sig) → Buf (Elt Ideal) ℓ) (c : Dev nD) (b : Fin 2) (r : Fin 256) (h : Fin 8) (d : Fin 64)

/-- What device `c` ends with at one index. -/
theorem outC_at : (outC m c (ix3 b r (ln h d)) : EReal) = Ideal.div (∑ n, wvC m c b r h d n) (∑ n, wC m c b r h n) := by
  rw [outC_div, sums_o, sums_l, total, total]

end Cert.Proof.Ker
-- ==== Proof.Whole.lean ====
/- The devices' results are the blocks of the reference's, where the queries and the keys are finite. -/
module

public import proofs.«01_k».proof.Proof.Total
public import proofs.«01_k».proof.Pre_finite_qk_KernelIdeal
public import Idealize.ShloMosaic.Lib.Layout

@[expose] public section

noncomputable section

namespace Cert.Proof.Ker

open Cert.KernelIdeal Cert.KernelIdeal.Gen
open Idealize.ShloMosaic Idealize.ShloMosaic.TcCoe
open Cert.Proof.Ref (ln score refOut)

variable (m : (ℓ : Loc nD τ sig) → Buf (Elt Ideal) ℓ)

/-- Row `r` of device `c`, in the whole. -/
abbrev row (c : Dev nD) (r : Fin 256) : Fin 2048 := ⟨256 * c.1 + r.1, by have : c.1 < 8 := c.2; omega⟩

/-- Every index of a whole array is in a device's block. -/
theorem exists_row (i : S2x2048x512.Idx) : ∃ (c : Dev nD) (b : Fin 2) (j : Fin 256) (l : Fin 512), i = ix3 b (row c j) l := by
  have h1 : (i 1).1 < 2048 := (i 1).2
  refine ⟨⟨(i 1).1 / 256, by show (i 1).1 / 256 < 8; omega⟩, i 0, ⟨(i 1).1 % 256, by omega⟩, i 2, ?_⟩
  refine (eq_ix3 i).trans (congrArg (fun k : Fin 2048 => (ix3 (i 0) k (i 2) : S2x2048x512.Idx)) (Fin.ext ?_))
  show (i 1).1 = 256 * ((i 1).1 / 256) + (i 1).1 % 256; omega

/-! ## The arguments as the kernel holds them -/

theorem qst_eq (c : Dev nD) : qst m c = m (c.tc.loc main_arg0) := by
  funext i
  refine congrArg (m (c.tc.loc main_arg0)) (funext fun a => Fin.ext ?_)
  fin_cases a
  · show 0 * 2 + 1 * (i 0).1 = (i 0).1; omega
  · show 0 * 256 + 1 * (i 1).1 = (i 1).1; omega
  · show 0 * 512 + 1 * (i 2).1 = (i 2).1; omega

/-- Device `c`'s block of a whole array, at an index. -/
theorem blk_at (X : S2x2048x512.Idx → EReal) (c : Dev nD) (b : Fin 2) (j : Fin 256) (l : Fin 512) :
    Layout.block ⟨3, ![2, 256, 512]⟩ ⟨3, ![2, 2048, 512]⟩ 1 8 c X (by decide) (ix3 b j l)
      = X (ix3 b ⟨256 * c.1 + j.1, by have : c.1 < 8 := c.2; omega⟩ l) := by
  rw [Layout.block_apply]
  refine congrArg X (funext fun a => ?_)
  fin_cases a <;> refine Fin.ext ?_
  · rfl
  · show c.1 * 256 + j.1 = 256 * c.1 + j.1; omega
  · rfl

theorem kst_eq (c : Dev nD) : kst m c = m (c.tc.loc main_arg1) := by
  funext i
  refine congrArg (m (c.tc.loc main_arg1)) (funext fun a => Fin.ext ?_)
  fin_cases a
  · show 0 * 2 + 1 * (i 0).1 = (i 0).1; omega
  · show 0 * 256 + 1 * (i 1).1 = (i 1).1; omega
  · show 0 * 512 + 1 * (i 2).1 = (i 2).1; omega

theorem vst_eq (c : Dev nD) : vst m c = m (c.tc.loc main_arg2) := by
  funext i
  refine congrArg (m (c.tc.loc main_arg2)) (funext fun a => Fin.ext ?_)
  fin_cases a
  · show 0 * 2 + 1 * (i 0).1 = (i 0).1; omega
  · show 0 * 256 + 1 * (i 1).1 = (i 1).1; omega
  · show 0 * 512 + 1 * (i 2).1 = (i 2).1; omega

/-! ## Finite -/

theorem real_of_abs (x : EReal) (hx : max x (-x) < ⊤) : ∃ y : ℝ, x = y := by
  induction x using EReal.rec with
  | bot => simp at hx
  | top => simp at hx
  | coe y => exact ⟨y, rfl⟩

theorem top_lit : Ideal.ofBits .f32 0x7F800000#32 = ⊤ := by simp [Ideal.ofBits, Ideal.ieee]

theorem both (a b : Bool) (h : IntOp.andi (BitVec.ofBool a) (BitVec.ofBool b) = 1#1) : a = true ∧ b = true := by
  revert h; revert a b; decide

section Pre
variable [Cert.Pre_finite_qk_KernelIdeal.Facts]

theorem pre_at (q k v : FVec Ideal S2x256x512 .f32) (i : S2x256x512.Idx) (h : Cert.Pre_finite_qk_KernelIdeal.fn (F := Ideal) q k v i = 1#1) :
    (∃ x : ℝ, (q i : EReal) = x) ∧ ∃ x : ℝ, (k i : EReal) = x := by
  have h0 := h
  pointwise [Cert.Pre_finite_qk_KernelIdeal.fn] at h0
  have h1 := both _ _ h0
  rw [decide_eq_true_iff, decide_eq_true_iff, top_lit] at h1
  exact ⟨real_of_abs _ h1.1, real_of_abs _ h1.2⟩

end Pre

/-- What every device's block has, the whole array has. -/
theorem whole_of_blocks (P : EReal → Prop) (X : S2x2048x512.Idx → EReal)
    (hb : ∀ (c : Dev nD) i, P (Layout.block ⟨3, ![2, 256, 512]⟩ ⟨3, ![2, 2048, 512]⟩ 1 8 c X (by decide) i)) (i : S2x2048x512.Idx) : P (X i) := by
  obtain ⟨c, b, j, l, rfl⟩ := exists_row i
  have := hb c (ix3 b j l)
  rwa [blk_at] at this

/-! ## The weights -/

variable (Q K V : S2x2048x512.Idx → EReal)
  (hQ : ∀ c : Dev nD, m (c.tc.loc main_arg0) = Layout.block ⟨3, ![2, 256, 512]⟩ ⟨3, ![2, 2048, 512]⟩ 1 8 c Q)
  (hK : ∀ c : Dev nD, m (c.tc.loc main_arg1) = Layout.block ⟨3, ![2, 256, 512]⟩ ⟨3, ![2, 2048, 512]⟩ 1 8 c K)
  (hV : ∀ c : Dev nD, m (c.tc.loc main_arg2) = Layout.block ⟨3, ![2, 256, 512]⟩ ⟨3, ![2, 2048, 512]⟩ 1 8 c V)

include hQ in
theorem q_at (c : Dev nD) (b : Fin 2) (r : Fin 256) (l : Fin 512) :
    (qC m c (ix3 b r l) : EReal) = Q (ix3 b (row c r) l) * ((1 / 8 : ℝ) : EReal) := by
  unfold qC
  rw [scaled_at, qst_eq, hQ, blk_at, Ref.eighth]

/-- A gathered block, where the blocks are those of a whole. -/
theorem gath_whole {e : EltTy} (f : Dev nD → S2x256x512.Idx → Elt Ideal e) (X : S2x2048x512.Idx → Elt Ideal e)
    (hf : ∀ c b j l, f c (ix3 b j l) = X (ix3 b (row c j) l)) : gath f = X := by
  funext i
  obtain ⟨c, b, j, l, rfl⟩ := exists_row i
  exact (own_gath c b f j l).symm.trans (hf c b j l)

include hK in
theorem KG_eq : KG m = K := gath_whole (e := .fp8e4m3) (kC m) K fun c b j l => by
  unfold kC
  rw [cast_at, kst_eq, hK]
  exact blk_at K c b j l

include hV in
theorem VG_eq : VG m = V := gath_whole (e := .fp8e4m3) (vC m) V fun c b j l => by
  unfold vC
  rw [cast_at, vst_eq, hV]
  exact blk_at V c b j l

include hQ hK in
theorem wC_eq (c : Dev nD) (b : Fin 2) (r : Fin 256) (h : Fin 8) (n : Fin 2048) :
    wC m c b r h n = Ideal.exp (score Q K b (row c r) n h) := by
  show wt (qC m c) (KG m) b r h n = _
  rw [KG_eq m K hK]
  unfold wt score
  simp only [q_at m Q hQ]
  rw [Alg.scale_sum _ _ _ (by norm_num)]

include hQ hK hV in
theorem wvC_eq (c : Dev nD) (b : Fin 2) (r : Fin 256) (h : Fin 8) (d : Fin 64) (n : Fin 2048) :
    wvC m c b r h d n = Ideal.exp (score Q K b (row c r) n h) * V (ix3 b n (ln h d)) := by
  show wC m c b r h n * VG m (ix3 b n (ln h d)) = _
  rw [wC_eq m Q K hQ hK, VG_eq m V hV]

include hQ hK hV in
theorem outC_eq (fQ : ∀ i, ∃ x : ℝ, Q i = x) (fK : ∀ i, ∃ x : ℝ, K i = x) (c : Dev nD) :
    outC m c = Layout.block ⟨3, ![2, 256, 512]⟩ ⟨3, ![2, 2048, 512]⟩ 1 8 c (refOut Q K V) := by
  funext i
  have h2 : (i 2).1 < 512 := (i 2).2
  obtain ⟨b, r, h, d, rfl⟩ : ∃ (b : Fin 2) (r : Fin 256) (h : Fin 8) (d : Fin 64), i = ix3 b r (ln h d) :=
    ⟨i 0, i 1, ⟨(i 2).1 / 64, by omega⟩, ⟨(i 2).1 % 64, by omega⟩, (eq_ix3 i).trans (congrArg (ix3 (i 0) (i 1)) (Fin.ext (by
      show (i 2).1 = (i 2).1 / 64 * 64 + (i 2).1 % 64; omega)))⟩
  refine (outC_at m c b r h d).trans (Eq.trans ?_ (blk_at (refOut Q K V) c b r (ln h d)).symm)
  rw [Ref.refOut_apply Q K V fQ fK]
  simp only [wvC_eq m Q K V hQ hK hV, wC_eq m Q K hQ hK]

end Cert.Proof.Ker
-- ==== Proof.lean ====
/- The claims about attention over a ring of eight devices: every program ends without fault and leaves its
   arguments and every semaphore counter as they were, and the devices' results are the blocks of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.Ends
public import proofs.«01_k».proof.Proof.Whole

@[expose] public section

noncomputable section

namespace Cert.Proof

open Idealize.ShloMosaic Idealize.SL.Sem

/-- The run read at the arguments alone. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2))
      ∧ r.2.sem = fun _ => 0) :=
  (θ_run Cert.KernelIdeal.defs _ _).mono (fun _ h => ⟨fun c => (h.1 c).2, h.2⟩) (Ker.run_ends m ρ)

section
attribute [local instance] Cert.Kernel.Gen.facts

/-- The two texts of the kernel have one table of bodies. -/
theorem labels_eq {F : FTy → Type} [FloatOps F] : Cert.Kernel.defs₀ (F := F) = Cert.KernelIdeal.defs₀ (F := F) := by
  funext κ ℓ a
  cases κ with
  | tc =>
    obtain ⟨n, hn⟩ := ℓ
    cases n with
    | zero => obtain ⟨t, s⟩ := a; rfl
    | succ n => exact absurd hn (Nat.not_lt.2 (Nat.le_add_left _ _))
  | _ => rfl

theorem table_eq {F : FTy → Type} [FloatOps F] : Cert.Kernel.defs (F := F) = Cert.KernelIdeal.defs (F := F) :=
  congrArg (Pipeline.defs Cert.KernelIdeal.pcfgs) labels_eq

end

/-- The kernel over words: the same text, so the same run, read at the words. -/
theorem frame_kernel : Cert.quiescent_Kernel (hKernel := Cert.Kernel.Gen.facts) := fun m ρ _ => by
  rw [table_eq]
  exact frame_any (F := Bits) m ρ

/-- The kernel over the extended reals. -/
theorem frame_ideal : Cert.quiescent_KernelIdeal (hKernelIdeal := Cert.KernelIdeal.Gen.facts) := fun m ρ _ => frame_any (F := Ideal) m ρ

/-- The reference over the extended reals: its run writes no argument, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result over the extended reals: where the queries and the keys are finite, each device ends with its block
    of what the reference ends with. -/
theorem value : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Pre_finite_qk_KernelIdeal.Gen.facts) := by
  intro m ρ m' ρ' hpre hm
  have fin := fun c i => Ker.pre_at _ _ _ i (congrFun (hpre c) i)
  have fQ := Ker.whole_of_blocks (fun x => ∃ y : ℝ, x = y) _ fun c i => (congrFun (hm c).1 i) ▸ (fin c i).1
  have fK := Ker.whole_of_blocks (fun x => ∃ y : ℝ, x = y) _ fun c i => (congrFun (hm c).2.1 i) ▸ (fin c i).2
  have e := Ker.outC_eq m _ _ _ (fun c => (hm c).1) (fun c => (hm c).2.1) (fun c => (hm c).2.2) fQ fK
  exact ⟨_, (θ_run Cert.KernelIdeal.defs _ _).mono (fun _ h c => ⟨(h.1 c).1.trans (e c), (h.1 c).2⟩) (Ker.run_ends m ρ),
    (θ_run Cert.ReferenceIdeal.defs _ _).mono (fun _ h => h 0) (Ref.run_ends m' ρ')⟩

theorem claim : Cert.Claim := ⟨Cert.Kernel.Gen.facts, Cert.KernelIdeal.Gen.facts, Cert.ReferenceIdeal.Gen.facts,
  Cert.Pre_finite_qk_KernelIdeal.Gen.facts, Cert.Pre_finite_qk_ReferenceIdeal.Gen.facts,
  frame_kernel, frame_ideal, fun m ρ _ => frame_ideal m ρ trivial, frame_reference, fun m ρ _ => frame_reference m ρ trivial,
  trivial, value⟩

end Cert.Proof

end
